-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v238)) (v1 : (c : Dev Cert.KernelIdeal.nD) → Buf (Elt Ideal) ((c.tc : Thread Cert.KernelIdeal.nD Cert.KernelIdeal.τ).loc Cert.KernelIdeal.main_v237_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v238) = v0 c
          ∧ r.2.mem ((c.tc : Thread Cert.KernelIdeal.nD Cert.KernelIdeal.τ).loc Cert.KernelIdeal.main_v237_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S65536x1024 : Shape := ⟨2, ![65536, 1024]⟩
abbrev S1024 : Shape := ⟨1, ![1024]⟩
abbrev S2048x1024 : Shape := ⟨2, ![2048, 1024]⟩
abbrev S8x1024 : Shape := ⟨2, ![8, 1024]⟩
abbrev S2048x8 : Shape := ⟨2, ![2048, 8]⟩
abbrev S2048x1 : Shape := ⟨2, ![2048, 1]⟩
abbrev S448 : Shape := ⟨1, ![448]⟩
abbrev S_ : Shape := ⟨0, ![]⟩
abbrev S1x448 : Shape := ⟨2, ![1, 448]⟩
abbrev S32 : Shape := ⟨1, ![32]⟩
abbrev S32x1 : Shape := ⟨2, ![32, 1]⟩
abbrev S32x448 : Shape := ⟨2, ![32, 448]⟩
abbrev S448x32 : Shape := ⟨2, ![448, 32]⟩
abbrev S33 : Shape := ⟨1, ![33]⟩
abbrev S1x32 : Shape := ⟨2, ![1, 32]⟩
abbrev S16x32 : Shape := ⟨2, ![16, 32]⟩
abbrev S464x32 : Shape := ⟨2, ![464, 32]⟩
abbrev S480x32 : Shape := ⟨2, ![480, 32]⟩
abbrev S1 : Shape := ⟨1, ![1]⟩
abbrev S32x32 : Shape := ⟨2, ![32, 32]⟩
abbrev S1x1 : Shape := ⟨2, ![1, 1]⟩
abbrev S448x448 : Shape := ⟨2, ![448, 448]⟩
abbrev S1x32x32 : Shape := ⟨3, ![1, 32, 32]⟩
abbrev S1x1x1 : Shape := ⟨3, ![1, 1, 1]⟩

abbrev nBuf : Space → Nat
  | .hbm => 261
  | .vmem => 10
  | .smem => 0
  | _ => 0

abbrev hbmTy0_0 (i : Nat) : BufTy := match i % 128 with
  | 0 => ⟨S1024x1024, .f32⟩
  | 1 => ⟨S65536x1024, .f32⟩
  | 2 => ⟨S1024, .f32⟩
  | 3 => ⟨S448, .f32⟩
  | 4 => ⟨S_, .f32⟩
  | 5 => ⟨S448, .f32⟩
  | 6 => ⟨S448, .f32⟩
  | 7 => ⟨S_, .f32⟩
  | 8 => ⟨S448, .f32⟩
  | 9 => ⟨S448, .f32⟩
  | 10 => ⟨S_, .f32⟩
  | 11 => ⟨S448, .f32⟩
  | 12 => ⟨S448, .f32⟩
  | 13 => ⟨S1x448, .f32⟩
  | 14 => ⟨S32, .f32⟩
  | 15 => ⟨S32x1, .f32⟩
  | 16 => ⟨S32x448, .f32⟩
  | 17 => ⟨S32x448, .f32⟩
  | 18 => ⟨S32x448, .f32⟩
  | 19 => ⟨S32x448, .f32⟩
  | 20 => ⟨S_, .f32⟩
  | 21 => ⟨S32x448, .f32⟩
  | 22 => ⟨S32x448, .f32⟩
  | 23 => ⟨S_, .f32⟩
  | 24 => ⟨S32x448, .f32⟩
  | 25 => ⟨S32x448, .f32⟩
  | 26 => ⟨S_, .f32⟩
  | 27 => ⟨S448, .f32⟩
  | 28 => ⟨S1x448, .f32⟩
  | 29 => ⟨S32x448, .f32⟩
  | 30 => ⟨S32x448, .f32⟩
  | 31 => ⟨S448x32, .f32⟩
  | 32 => ⟨S33, .f32⟩
  | 33 => ⟨S_, .f32⟩
  | 34 => ⟨S33, .f32⟩
  | 35 => ⟨S33, .f32⟩
  | 36 => ⟨S_, .f32⟩
  | 37 => ⟨S33, .f32⟩
  | 38 => ⟨S33, .f32⟩
  | 39 => ⟨S33, .f32⟩
  | 40 => ⟨S_, .f32⟩
  | 41 => ⟨S33, .f32⟩
  | 42 => ⟨S33, .f32⟩
  | 43 => ⟨S33, .f32⟩
  | 44 => ⟨S_, .f32⟩
  | 45 => ⟨S_, .f32⟩
  | 46 => ⟨S33, .f32⟩
  | 47 => ⟨S33, .f32⟩
  | 48 => ⟨S_, .i32⟩
  | 49 => ⟨S1x32, .f32⟩
  | 50 => ⟨S16x32, .f32⟩
  | 51 => ⟨S16x32, .f32⟩
  | 52 => ⟨S464x32, .f32⟩
  | 53 => ⟨S1x32, .f32⟩
  | 54 => ⟨S16x32, .f32⟩
  | 55 => ⟨S16x32, .f32⟩
  | 56 => ⟨S480x32, .f32⟩
  | 57 => ⟨S_, .f32⟩
  | 58 => ⟨S448x32, .f32⟩
  | 59 => ⟨S1, .f32⟩
  | 60 => ⟨S_, .f32⟩
  | 61 => ⟨S448x32, .f32⟩
  | 62 => ⟨S448x32, .f32⟩
  | 63 => ⟨S448x32, .f32⟩
  | 64 => ⟨S448x32, .f32⟩
  | 65 => ⟨S1, .f32⟩
  | 66 => ⟨S_, .f32⟩
  | 67 => ⟨S448x32, .f32⟩
  | 68 => ⟨S448x32, .f32⟩
  | 69 => ⟨S448x32, .f32⟩
  | 70 => ⟨S448x32, .f32⟩
  | 71 => ⟨S1, .f32⟩
  | 72 => ⟨S_, .f32⟩
  | 73 => ⟨S448x32, .f32⟩
  | 74 => ⟨S448x32, .f32⟩
  | 75 => ⟨S448x32, .f32⟩
  | 76 => ⟨S448x32, .f32⟩
  | 77 => ⟨S1, .f32⟩
  | 78 => ⟨S_, .f32⟩
  | 79 => ⟨S448x32, .f32⟩
  | 80 => ⟨S448x32, .f32⟩
  | 81 => ⟨S448x32, .f32⟩
  | 82 => ⟨S448x32, .f32⟩
  | 83 => ⟨S1, .f32⟩
  | 84 => ⟨S_, .f32⟩
  | 85 => ⟨S448x32, .f32⟩
  | 86 => ⟨S448x32, .f32⟩
  | 87 => ⟨S448x32, .f32⟩
  | 88 => ⟨S448x32, .f32⟩
  | 89 => ⟨S1, .f32⟩
  | 90 => ⟨S_, .f32⟩
  | 91 => ⟨S448x32, .f32⟩
  | 92 => ⟨S448x32, .f32⟩
  | 93 => ⟨S448x32, .f32⟩
  | 94 => ⟨S448x32, .f32⟩
  | 95 => ⟨S1, .f32⟩
  | 96 => ⟨S_, .f32⟩
  | 97 => ⟨S448x32, .f32⟩
  | 98 => ⟨S448x32, .f32⟩
  | 99 => ⟨S448x32, .f32⟩
  | 100 => ⟨S448x32, .f32⟩
  | 101 => ⟨S1, .f32⟩
  | 102 => ⟨S_, .f32⟩
  | 103 => ⟨S448x32, .f32⟩
  | 104 => ⟨S448x32, .f32⟩
  | 105 => ⟨S448x32, .f32⟩
  | 106 => ⟨S448x32, .f32⟩
  | 107 => ⟨S1, .f32⟩
  | 108 => ⟨S_, .f32⟩
  | 109 => ⟨S448x32, .f32⟩
  | 110 => ⟨S448x32, .f32⟩
  | 111 => ⟨S448x32, .f32⟩
  | 112 => ⟨S448x32, .f32⟩
  | 113 => ⟨S1, .f32⟩
  | 114 => ⟨S_, .f32⟩
  | 115 => ⟨S448x32, .f32⟩
  | 116 => ⟨S448x32, .f32⟩
  | 117 => ⟨S448x32, .f32⟩
  | 118 => ⟨S448x32, .f32⟩
  | 119 => ⟨S1, .f32⟩
  | 120 => ⟨S_, .f32⟩
  | 121 => ⟨S448x32, .f32⟩
  | 122 => ⟨S448x32, .f32⟩
  | 123 => ⟨S448x32, .f32⟩
  | 124 => ⟨S448x32, .f32⟩
  | 125 => ⟨S1, .f32⟩
  | 126 => ⟨S_, .f32⟩
  | 127 => ⟨S448x32, .f32⟩
  | _ => ⟨S1024x1024, .f32⟩

abbrev hbmTy0_1 (i : Nat) : BufTy := match i % 128 with
  | 0 => ⟨S448x32, .f32⟩
  | 1 => ⟨S448x32, .f32⟩
  | 2 => ⟨S448x32, .f32⟩
  | 3 => ⟨S1, .f32⟩
  | 4 => ⟨S_, .f32⟩
  | 5 => ⟨S448x32, .f32⟩
  | 6 => ⟨S448x32, .f32⟩
  | 7 => ⟨S448x32, .f32⟩
  | 8 => ⟨S448x32, .f32⟩
  | 9 => ⟨S1, .f32⟩
  | 10 => ⟨S_, .f32⟩
  | 11 => ⟨S448x32, .f32⟩
  | 12 => ⟨S448x32, .f32⟩
  | 13 => ⟨S448x32, .f32⟩
  | 14 => ⟨S448x32, .f32⟩
  | 15 => ⟨S1, .f32⟩
  | 16 => ⟨S_, .f32⟩
  | 17 => ⟨S448x32, .f32⟩
  | 18 => ⟨S448x32, .f32⟩
  | 19 => ⟨S448x32, .f32⟩
  | 20 => ⟨S448x32, .f32⟩
  | 21 => ⟨S1, .f32⟩
  | 22 => ⟨S_, .f32⟩
  | 23 => ⟨S448x32, .f32⟩
  | 24 => ⟨S448x32, .f32⟩
  | 25 => ⟨S448x32, .f32⟩
  | 26 => ⟨S448x32, .f32⟩
  | 27 => ⟨S1, .f32⟩
  | 28 => ⟨S_, .f32⟩
  | 29 => ⟨S448x32, .f32⟩
  | 30 => ⟨S448x32, .f32⟩
  | 31 => ⟨S448x32, .f32⟩
  | 32 => ⟨S448x32, .f32⟩
  | 33 => ⟨S1, .f32⟩
  | 34 => ⟨S_, .f32⟩
  | 35 => ⟨S448x32, .f32⟩
  | 36 => ⟨S448x32, .f32⟩
  | 37 => ⟨S448x32, .f32⟩
  | 38 => ⟨S448x32, .f32⟩
  | 39 => ⟨S1, .f32⟩
  | 40 => ⟨S_, .f32⟩
  | 41 => ⟨S448x32, .f32⟩
  | 42 => ⟨S448x32, .f32⟩
  | 43 => ⟨S448x32, .f32⟩
  | 44 => ⟨S448x32, .f32⟩
  | 45 => ⟨S1, .f32⟩
  | 46 => ⟨S_, .f32⟩
  | 47 => ⟨S448x32, .f32⟩
  | 48 => ⟨S448x32, .f32⟩
  | 49 => ⟨S448x32, .f32⟩
  | 50 => ⟨S448x32, .f32⟩
  | 51 => ⟨S1, .f32⟩
  | 52 => ⟨S_, .f32⟩
  | 53 => ⟨S448x32, .f32⟩
  | 54 => ⟨S448x32, .f32⟩
  | 55 => ⟨S448x32, .f32⟩
  | 56 => ⟨S448x32, .f32⟩
  | 57 => ⟨S1, .f32⟩
  | 58 => ⟨S_, .f32⟩
  | 59 => ⟨S448x32, .f32⟩
  | 60 => ⟨S448x32, .f32⟩
  | 61 => ⟨S448x32, .f32⟩
  | 62 => ⟨S448x32, .f32⟩
  | 63 => ⟨S1, .f32⟩
  | 64 => ⟨S_, .f32⟩
  | 65 => ⟨S448x32, .f32⟩
  | 66 => ⟨S448x32, .f32⟩
  | 67 => ⟨S448x32, .f32⟩
  | 68 => ⟨S448x32, .f32⟩
  | 69 => ⟨S1, .f32⟩
  | 70 => ⟨S_, .f32⟩
  | 71 => ⟨S448x32, .f32⟩
  | 72 => ⟨S448x32, .f32⟩
  | 73 => ⟨S448x32, .f32⟩
  | 74 => ⟨S448x32, .f32⟩
  | 75 => ⟨S1, .f32⟩
  | 76 => ⟨S_, .f32⟩
  | 77 => ⟨S448x32, .f32⟩
  | 78 => ⟨S448x32, .f32⟩
  | 79 => ⟨S448x32, .f32⟩
  | 80 => ⟨S448x32, .f32⟩
  | 81 => ⟨S1, .f32⟩
  | 82 => ⟨S_, .f32⟩
  | 83 => ⟨S448x32, .f32⟩
  | 84 => ⟨S448x32, .f32⟩
  | 85 => ⟨S448x32, .f32⟩
  | 86 => ⟨S448x32, .f32⟩
  | 87 => ⟨S1, .f32⟩
  | 88 => ⟨S_, .f32⟩
  | 89 => ⟨S448x32, .f32⟩
  | 90 => ⟨S448x32, .f32⟩
  | 91 => ⟨S448x32, .f32⟩
  | 92 => ⟨S448x32, .f32⟩
  | 93 => ⟨S1, .f32⟩
  | 94 => ⟨S_, .f32⟩
  | 95 => ⟨S448x32, .f32⟩
  | 96 => ⟨S448x32, .f32⟩
  | 97 => ⟨S448x32, .f32⟩
  | 98 => ⟨S448x32, .f32⟩
  | 99 => ⟨S1, .f32⟩
  | 100 => ⟨S_, .f32⟩
  | 101 => ⟨S448x32, .f32⟩
  | 102 => ⟨S448x32, .f32⟩
  | 103 => ⟨S448x32, .f32⟩
  | 104 => ⟨S448x32, .f32⟩
  | 105 => ⟨S1, .f32⟩
  | 106 => ⟨S_, .f32⟩
  | 107 => ⟨S448x32, .f32⟩
  | 108 => ⟨S448x32, .f32⟩
  | 109 => ⟨S448x32, .f32⟩
  | 110 => ⟨S448x32, .f32⟩
  | 111 => ⟨S1, .f32⟩
  | 112 => ⟨S_, .f32⟩
  | 113 => ⟨S448x32, .f32⟩
  | 114 => ⟨S448x32, .f32⟩
  | 115 => ⟨S448x32, .f32⟩
  | 116 => ⟨S448x32, .f32⟩
  | 117 => ⟨S1, .f32⟩
  | 118 => ⟨S_, .f32⟩
  | 119 => ⟨S448x32, .f32⟩
  | 120 => ⟨S448x32, .f32⟩
  | 121 => ⟨S448x32, .f32⟩
  | 122 => ⟨S448x32, .f32⟩
  | 123 => ⟨S1, .f32⟩
  | 124 => ⟨S_, .f32⟩
  | 125 => ⟨S448x32, .f32⟩
  | 126 => ⟨S448x32, .f32⟩
  | 127 => ⟨S448x32, .f32⟩
  | _ => ⟨S1024x1024, .f32⟩

abbrev hbmTy0_2 (i : Nat) : BufTy := match i % 128 with
  | 0 => ⟨S448x32, .f32⟩
  | 1 => ⟨S32x32, .f32⟩
  | 2 => ⟨S1x1, .f32⟩
  | 3 => ⟨S448x448, .f32⟩
  | 4 => ⟨S_, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S2048x1024, .f32⟩
  | .local _ .vmem, ⟨2, _⟩ => ⟨S2048x1024, .f32⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S32x32, .f32⟩
  | .local _ .vmem, ⟨7, _⟩ => ⟨S448x32, .f32⟩
  | .local _ .vmem, ⟨8, _⟩ => ⟨S1x1, .f32⟩
  | .local _ .vmem, ⟨9, _⟩ => ⟨S448x448, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237_0 : Ref sig .tc := ⟨.hbm, 258, rfl⟩
abbrev main_v237_1 : Ref sig .tc := ⟨.hbm, 259, rfl⟩
abbrev main_v238 : Ref sig .tc := ⟨.hbm, 260, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S32x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S448x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S448x448 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S1024x1024 : Shape := ⟨2, ![1024, 1024]⟩
abbrev S65536x1024 : Shape := ⟨2, ![65536, 1024]⟩
abbrev S_ : Shape := ⟨0, ![]⟩
abbrev S1024 : Shape := ⟨1, ![1024]⟩
abbrev S1024x1 : Shape := ⟨2, ![1024, 1]⟩
abbrev S65536 : Shape := ⟨1, ![65536]⟩
abbrev S65536x1 : Shape := ⟨2, ![65536, 1]⟩
abbrev S1024x65536 : Shape := ⟨2, ![1024, 65536]⟩
abbrev S10 : Shape := ⟨1, ![10]⟩
abbrev S32x32 : Shape := ⟨2, ![32, 32]⟩
abbrev S448 : Shape := ⟨1, ![448]⟩
abbrev S1x448 : Shape := ⟨2, ![1, 448]⟩
abbrev S32 : Shape := ⟨1, ![32]⟩
abbrev S32x1 : Shape := ⟨2, ![32, 1]⟩
abbrev S32x448 : Shape := ⟨2, ![32, 448]⟩
abbrev S448x32 : Shape := ⟨2, ![448, 32]⟩
abbrev S448x448 : Shape := ⟨2, ![448, 448]⟩
abbrev S33 : Shape := ⟨1, ![33]⟩
abbrev S448x1 : Shape := ⟨2, ![448, 1]⟩
abbrev S448x16 : Shape := ⟨2, ![448, 16]⟩
abbrev S448x464 : Shape := ⟨2, ![448, 464]⟩
abbrev S448x480 : Shape := ⟨2, ![448, 480]⟩
abbrev S1x33 : Shape := ⟨2, ![1, 33]⟩
abbrev S448x33 : Shape := ⟨2, ![448, 33]⟩
abbrev S448x33x1 : Shape := ⟨3, ![448, 33, 1]⟩
abbrev S448x448x33 : Shape := ⟨3, ![448, 448, 33]⟩
abbrev S1x1x33 : Shape := ⟨3, ![1, 1, 33]⟩

abbrev nBuf : Space → Nat
  | .hbm => 174
  | .vmem => 0
  | .smem => 0
  | _ => 0

abbrev hbmTy0_0 (i : Nat) : BufTy := match i % 128 with
  | 0 => ⟨S1024x1024, .f32⟩
  | 1 => ⟨S65536x1024, .f32⟩
  | 2 => ⟨S1024x1024, .f32⟩
  | 3 => ⟨S_, .f32⟩
  | 4 => ⟨S1024, .f32⟩
  | 5 => ⟨S1024x1, .f32⟩
  | 6 => ⟨S1024x1, .f32⟩
  | 7 => ⟨S_, .f32⟩
  | 8 => ⟨S1024x1, .f32⟩
  | 9 => ⟨S1024x1, .f32⟩
  | 10 => ⟨S1024x1024, .f32⟩
  | 11 => ⟨S1024x1024, .f32⟩
  | 12 => ⟨S65536x1024, .f32⟩
  | 13 => ⟨S_, .f32⟩
  | 14 => ⟨S65536, .f32⟩
  | 15 => ⟨S65536x1, .f32⟩
  | 16 => ⟨S65536x1, .f32⟩
  | 17 => ⟨S_, .f32⟩
  | 18 => ⟨S65536x1, .f32⟩
  | 19 => ⟨S65536x1, .f32⟩
  | 20 => ⟨S65536x1024, .f32⟩
  | 21 => ⟨S65536x1024, .f32⟩
  | 22 => ⟨S1024x65536, .f32⟩
  | 23 => ⟨S1024x65536, .f32⟩
  | 24 => ⟨S_, .f32⟩
  | 25 => ⟨S1024, .f32⟩
  | 26 => ⟨S_, .f32⟩
  | 27 => ⟨S1024, .f32⟩
  | 28 => ⟨S1024, .f32⟩
  | 29 => ⟨S10, .f32⟩
  | 30 => ⟨S10, .i32⟩
  | 31 => ⟨S_, .f32⟩
  | 32 => ⟨S_, .f32⟩
  | 33 => ⟨S_, .f32⟩
  | 34 => ⟨S_, .f32⟩
  | 35 => ⟨S32x32, .f32⟩
  | 36 => ⟨S448, .f32⟩
  | 37 => ⟨S_, .f32⟩
  | 38 => ⟨S448, .f32⟩
  | 39 => ⟨S448, .f32⟩
  | 40 => ⟨S_, .f32⟩
  | 41 => ⟨S448, .f32⟩
  | 42 => ⟨S448, .f32⟩
  | 43 => ⟨S_, .f32⟩
  | 44 => ⟨S448, .f32⟩
  | 45 => ⟨S448, .f32⟩
  | 46 => ⟨S1x448, .f32⟩
  | 47 => ⟨S32, .f32⟩
  | 48 => ⟨S32x1, .f32⟩
  | 49 => ⟨S32x448, .f32⟩
  | 50 => ⟨S32x448, .f32⟩
  | 51 => ⟨S32x448, .f32⟩
  | 52 => ⟨S32x448, .f32⟩
  | 53 => ⟨S_, .f32⟩
  | 54 => ⟨S32x448, .f32⟩
  | 55 => ⟨S32x448, .f32⟩
  | 56 => ⟨S_, .f32⟩
  | 57 => ⟨S32x448, .f32⟩
  | 58 => ⟨S32x448, .f32⟩
  | 59 => ⟨S_, .f32⟩
  | 60 => ⟨S448, .f32⟩
  | 61 => ⟨S1x448, .f32⟩
  | 62 => ⟨S32x448, .f32⟩
  | 63 => ⟨S32x448, .f32⟩
  | 64 => ⟨S32x448, .f32⟩
  | 65 => ⟨S448x32, .f32⟩
  | 66 => ⟨S448, .f32⟩
  | 67 => ⟨S_, .f32⟩
  | 68 => ⟨S448, .f32⟩
  | 69 => ⟨S448, .f32⟩
  | 70 => ⟨S_, .f32⟩
  | 71 => ⟨S448, .f32⟩
  | 72 => ⟨S448, .f32⟩
  | 73 => ⟨S_, .f32⟩
  | 74 => ⟨S448, .f32⟩
  | 75 => ⟨S448, .f32⟩
  | 76 => ⟨S1x448, .f32⟩
  | 77 => ⟨S32, .f32⟩
  | 78 => ⟨S32x1, .f32⟩
  | 79 => ⟨S32x448, .f32⟩
  | 80 => ⟨S32x448, .f32⟩
  | 81 => ⟨S32x448, .f32⟩
  | 82 => ⟨S32x448, .f32⟩
  | 83 => ⟨S_, .f32⟩
  | 84 => ⟨S32x448, .f32⟩
  | 85 => ⟨S32x448, .f32⟩
  | 86 => ⟨S_, .f32⟩
  | 87 => ⟨S32x448, .f32⟩
  | 88 => ⟨S32x448, .f32⟩
  | 89 => ⟨S_, .f32⟩
  | 90 => ⟨S448, .f32⟩
  | 91 => ⟨S1x448, .f32⟩
  | 92 => ⟨S32x448, .f32⟩
  | 93 => ⟨S32x448, .f32⟩
  | 94 => ⟨S448x448, .f32⟩
  | 95 => ⟨S448x448, .f32⟩
  | 96 => ⟨S33, .f32⟩
  | 97 => ⟨S_, .f32⟩
  | 98 => ⟨S33, .f32⟩
  | 99 => ⟨S33, .f32⟩
  | 100 => ⟨S_, .f32⟩
  | 101 => ⟨S33, .f32⟩
  | 102 => ⟨S33, .f32⟩
  | 103 => ⟨S33, .f32⟩
  | 104 => ⟨S_, .f32⟩
  | 105 => ⟨S33, .f32⟩
  | 106 => ⟨S33, .f32⟩
  | 107 => ⟨S33, .f32⟩
  | 108 => ⟨S_, .f32⟩
  | 109 => ⟨S_, .f32⟩
  | 110 => ⟨S33, .f32⟩
  | 111 => ⟨S33, .f32⟩
  | 112 => ⟨S_, .i32⟩
  | 113 => ⟨S448x1, .f32⟩
  | 114 => ⟨S448x16, .f32⟩
  | 115 => ⟨S448x16, .f32⟩
  | 116 => ⟨S448x464, .f32⟩
  | 117 => ⟨S448x1, .f32⟩
  | 118 => ⟨S448x16, .f32⟩
  | 119 => ⟨S448x16, .f32⟩
  | 120 => ⟨S448x480, .f32⟩
  | 121 => ⟨S448, .i32⟩
  | 122 => ⟨S448x1, .i32⟩
  | 123 => ⟨S33, .i32⟩
  | 124 => ⟨S1x33, .i32⟩
  | 125 => ⟨S448x33, .i32⟩
  | 126 => ⟨S448x33, .i32⟩
  | 127 => ⟨S448x33, .i32⟩
  | _ => ⟨S1024x1024, .f32⟩

abbrev hbmTy0_1 (i : Nat) : BufTy := match i % 128 with
  | 0 => ⟨S_, .i32⟩
  | 1 => ⟨S448x33, .i32⟩
  | 2 => ⟨S448x33, .i1⟩
  | 3 => ⟨S_, .i32⟩
  | 4 => ⟨S448x33, .i32⟩
  | 5 => ⟨S448x33, .i32⟩
  | 6 => ⟨S448x33, .i32⟩
  | 7 => ⟨S448x33x1, .i32⟩
  | 8 => ⟨S448x448x33, .f32⟩
  | 9 => ⟨S1x1x33, .f32⟩
  | 10 => ⟨S448x448x33, .f32⟩
  | 11 => ⟨S448x448x33, .f32⟩
  | 12 => ⟨S_, .f32⟩
  | 13 => ⟨S448x448, .f32⟩
  | 14 => ⟨S448x448, .f32⟩
  | 15 => ⟨S_, .i32⟩
  | 16 => ⟨S448x1, .f32⟩
  | 17 => ⟨S448x16, .f32⟩
  | 18 => ⟨S448x16, .f32⟩
  | 19 => ⟨S448x464, .f32⟩
  | 20 => ⟨S448x1, .f32⟩
  | 21 => ⟨S448x16, .f32⟩
  | 22 => ⟨S448x16, .f32⟩
  | 23 => ⟨S448x480, .f32⟩
  | 24 => ⟨S448, .i32⟩
  | 25 => ⟨S448x1, .i32⟩
  | 26 => ⟨S33, .i32⟩
  | 27 => ⟨S1x33, .i32⟩
  | 28 => ⟨S448x33, .i32⟩
  | 29 => ⟨S448x33, .i32⟩
  | 30 => ⟨S448x33, .i32⟩
  | 31 => ⟨S_, .i32⟩
  | 32 => ⟨S448x33, .i32⟩
  | 33 => ⟨S448x33, .i1⟩
  | 34 => ⟨S_, .i32⟩
  | 35 => ⟨S448x33, .i32⟩
  | 36 => ⟨S448x33, .i32⟩
  | 37 => ⟨S448x33, .i32⟩
  | 38 => ⟨S448x33x1, .i32⟩
  | 39 => ⟨S448x448x33, .f32⟩
  | 40 => ⟨S1x1x33, .f32⟩
  | 41 => ⟨S448x448x33, .f32⟩
  | 42 => ⟨S448x448x33, .f32⟩
  | 43 => ⟨S_, .f32⟩
  | 44 => ⟨S448x448, .f32⟩
  | 45 => ⟨S448x448, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_values : Ref sig .tc := ⟨.hbm, 29, rfl⟩
abbrev main_indices : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_cst_13 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_20 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_21 : Ref sig .tc := ⟨.hbm, 128, rfl⟩
abbrev main_v86 : Ref sig .tc := ⟨.hbm, 129, rfl⟩
abbrev main_v87 : Ref sig .tc := ⟨.hbm, 130, rfl⟩
abbrev main_c_22 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_23 : Ref sig .tc := ⟨.hbm, 140, rfl⟩
abbrev main_v96 : Ref sig .tc := ⟨.hbm, 141, rfl⟩
abbrev main_v97 : Ref sig .tc := ⟨.hbm, 142, rfl⟩
abbrev main_c_24 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_25 : Ref sig .tc := ⟨.hbm, 159, rfl⟩
abbrev main_v106 : Ref sig .tc := ⟨.hbm, 160, rfl⟩
abbrev main_v107 : Ref sig .tc := ⟨.hbm, 161, rfl⟩
abbrev main_c_26 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_27 : Ref sig .tc := ⟨.hbm, 171, rfl⟩
abbrev main_v116 : Ref sig .tc := ⟨.hbm, 172, rfl⟩
abbrev main_v117 : Ref sig .tc := ⟨.hbm, 173, rfl⟩

abbrev nD : Nat := 1
abbrev τ : Topo := Topo.v7x

variable {F : FTy → Type} [FloatOps F]
-- ==== Proof.KernelIdealCall0.lean ====
/- Custom_call 0 over the contents V its region is entered with: each case of the body run, what the output and the
   two carried scratch buffers hold point by point, the proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1024 .f32 := (Memref.whole cc0_stg2_0 : Memref sig .tc .vmem S1024 .f32).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x1024 .bf16 := Memref.whole cc0_scratch0
abbrev scM0_1 : Memref sig .tc .vmem S1024 .f32 := Memref.whole cc0_scratch1
/-- The scratch `arg4` the kernel carries between points, as a view: what it holds is stated through it. -/
abbrev VS0_0 : View sig .tc .vmem S1024x1024 .bf16 := scM0_0.view
/-- The scratch `arg5` the kernel carries between points, as a view: what it holds is stated through it. -/
abbrev VS0_1 : View sig .tc .vmem S1024 .f32 := scM0_1.view

/-- The core's scoped buffers that are neither custom_call 0's staging buffers nor its scratch: custom_call 1's
    staging buffers, each at some contents. -/
def stgRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- The region's entry invariant with the two scratch buffers as memrefs owned at some contents, the other scoped
    buffers beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ stgRest c) ∗ (∃ r, prngReg c r)) := by
  unfold Pipeline.ΦA stgRest; rw [scopedRest0_eq]; simp only [scM0_0, scM0_1, owns_whole]; try rfl

set_option maxHeartbeats 1000000 in
/-- What the body's stores leave in each output's staging memref, as pieces (last first) IN CASE A (`scf.if` 0 taken, `scf.if` 1 not taken: points 0), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) :
    Σ' (L2 : List (View.Piece (Elt F) S1024 .f32)), Σ' (LS0 : List (View.Piece (Elt F) S1024x1024 .bf16)), { LS1 : List (View.Piece (Elt F) S1024 .f32) //
      ∀ (xi2 : Vec F S1024 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__lambda_ i arg1 harg1 arg2 harg2 arg3 harg3 arg4 harg4 arg5 harg5) K } := by
  refine ⟨[], ?_, ?_, fun xi2 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : ¬cond0_1 i)
    (x0 : Vec F S1024x1024 .f32) (x1 : Vec F S2048x1024 .f32) (xs0 : Vec F S1024x1024 .bf16) (xs1 : Vec F S1024 .f32) :
    Σ' (L2 : List (View.Piece (Elt F) S1024 .f32)), Σ' (LS0 : List (View.Piece (Elt F) S1024x1024 .bf16)), { LS1 : List (View.Piece (Elt F) S1024 .f32) //
      ∀ (xi2 : Vec F S1024 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) Variants.none c none) E (cc0__lambda_ i arg1 harg1 arg2 harg2 arg3 harg3 arg4 harg4 arg5 harg5) K } := by
  refine ⟨[], [], ?_, fun xi2 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]
    · iexists _; isplitr; · ipureintro; exact harg4.read_unread _
      iexact HS0
    iexists _; iexact HS1

set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) :
    Σ' (L2 : List (View.Piece (Elt F) S1024 .f32)), Σ' (LS0 : List (View.Piece (Elt F) S1024x1024 .bf16)), { LS1 : List (View.Piece (Elt F) S1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xs0 ∗ (∃ f, arg5.view.loc (c : Thread nD τ) ↦[arg5.view.set]{fullShare} arg5.view.writes (Elt F) f LS1)) -∗ K ⟨⟩))
          ⊢ wp frame (wpE (defs₀ (F := F)) Variants.none c none) E (cc0__lambda_ i arg1 harg1 arg2 harg2 arg3 harg3 arg4 harg4 arg5 harg5) K } := by
  refine ⟨?_, [], ?_, fun E K => ?run⟩
  case run =>
    simp only [cc0__lambda__eq_skeleton]; unfold cc0__lambda__skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1; obtain rfl := harg4.eq_unread hfs0; obtain rfl := harg5.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg4.read_unread _
      iexact HS0
    iexists _; iexact HS1

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) : Vec F S1024 .f32 :=
  VO0_2.read (Elt F) (VO0_2.writes (Elt F) VO0_2.junk (kernelRun0_A c i arg1 harg1 arg2 harg2 arg3 harg3 arg4 harg4 arg5 harg5 hc0 hc1 x0 x1).1)

/-- Case A's pieces for scratch `arg4`, which the kernel carries between points, cover it: 1 piece of `S1024x1024` tiling it (Lib/Ring.lean `Piece.tiledL`). -/
theorem scover0_A_0 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) (y : S1024x1024.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S1024x1024.size (by sl_kernel_rfl) y

/-- What case A leaves in scratch `arg4`: its pieces read back over junk. -/
def sout0_A_0 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) : Vec F S1024x1024 .bf16 :=
  VS0_0.read (Elt F) (VS0_0.writes (Elt F) VS0_0.junk (kernelRun0_A c i arg1 harg1 arg2 harg2 arg3 harg3 arg4 harg4 arg5 harg5 hc0 hc1 x0 x1).2.1)

/-- Case A's pieces for scratch `arg5`, which the kernel carries between points, cover it: 2 pieces of `S1024` tiling it (Lib/Ring.lean `Piece.tiledL`). -/
theorem scover0_A_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) (y : S1024.Idx) :
    ∃ pc ∈ (kernelRun0_A c i arg1 harg1 arg2 harg2 arg3 harg3 arg4 harg4 arg5 harg5 hc0 hc1 x0 x1).2.2.1, y ∈ pc.1.set :=
  View.cover_of_tiledL (kernelRun0_A c i arg1 harg1 arg2 harg2 arg3 harg3 arg4 harg4 arg5 harg5 hc0 hc1 x0 x1).2.2.1 S1024.size (by sl_kernel_rfl) y

/-- What case A leaves in scratch `arg5`: its pieces read back over junk. -/
def sout0_A_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : cond0_0 i) (hc1 : ¬cond0_1 i)
    (x0 : Vec F S1024x1024 .f32) (x1 : Vec F S2048x1024 .f32) : Vec F S1024 .f32 :=
  VS0_1.read (Elt F) (VS0_1.writes (Elt F) VS0_1.junk (kernelRun0_A c i arg1 harg1 arg2 harg2 arg3 harg3 arg4 harg4 arg5 harg5 hc0 hc1 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : ¬cond0_1 i)
    (x0 : Vec F S1024x1024 .f32) (x1 : Vec F S2048x1024 .f32) (xs0 : Vec F S1024x1024 .bf16) (xs1 : Vec F S1024 .f32) : Vec F S1024 .f32 :=
  VO0_2.read (Elt F) (VO0_2.writes (Elt F) VO0_2.junk (kernelRun0_B c i arg1 harg1 arg2 harg2 arg3 harg3 arg4 harg4 arg5 harg5 hc0 hc1 x0 x1 xs0 xs1).1)

/-- Case B stores nothing into scratch `arg4`: it holds what the point before left. -/
def sout0_B_0 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : ¬cond0_1 i)
    (x0 : Vec F S1024x1024 .f32) (x1 : Vec F S2048x1024 .f32) (xs0 : Vec F S1024x1024 .bf16) (xs1 : Vec F S1024 .f32) : Vec F S1024x1024 .bf16 := xs0

/-- Case B's pieces for scratch `arg5`, which the kernel carries between points, cover it: 1 piece of `S1024` tiling it (Lib/Ring.lean `Piece.tiledL`). -/
theorem scover0_B_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : ¬cond0_1 i)
    (x0 : Vec F S1024x1024 .f32) (x1 : Vec F S2048x1024 .f32) (xs0 : Vec F S1024x1024 .bf16) (xs1 : Vec F S1024 .f32) (y : S1024.Idx) :
    ∃ pc ∈ (kernelRun0_B c i arg1 harg1 arg2 harg2 arg3 harg3 arg4 harg4 arg5 harg5 hc0 hc1 x0 x1 xs0 xs1).2.2.1, y ∈ pc.1.set :=
  View.cover_of_tiledL (kernelRun0_B c i arg1 harg1 arg2 harg2 arg3 harg3 arg4 harg4 arg5 harg5 hc0 hc1 x0 x1 xs0 xs1).2.2.1 S1024.size (by sl_kernel_rfl) y

/-- What case B leaves in scratch `arg5`: its pieces read back over junk. -/
def sout0_B_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : ¬cond0_1 i)
    (x0 : Vec F S1024x1024 .f32) (x1 : Vec F S2048x1024 .f32) (xs0 : Vec F S1024x1024 .bf16) (xs1 : Vec F S1024 .f32) : Vec F S1024 .f32 :=
  VS0_1.read (Elt F) (VS0_1.writes (Elt F) VS0_1.junk (kernelRun0_B c i arg1 harg1 arg2 harg2 arg3 harg3 arg4 harg4 arg5 harg5 hc0 hc1 x0 x1 xs0 xs1).2.2.1)

/-- Case C's pieces for output 2 tile its block (1 store of `S1024`, checked by the kernel's evaluation: Lib/Ring.lean `Piece.tiledL`, linear in the pieces, through a loop's `@[irreducible]` trip theorem too), so they cover it. -/
theorem cover0_C_2 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) (y : S1024.Idx) :
    ∃ pc ∈ (kernelRun0_C c i arg1 harg1 arg2 harg2 arg3 harg3 arg4 harg4 arg5 harg5 hc0 hc1 x0 x1 xs0 xs1).1, y ∈ pc.1.set :=
  View.cover_of_tiledL (kernelRun0_C c i arg1 harg1 arg2 harg2 arg3 harg3 arg4 harg4 arg5 harg5 hc0 hc1 x0 x1 xs0 xs1).1 S1024.size (by sl_kernel_rfl) y

/-- What case C leaves in output 2's staging buffer: its pieces read back over junk. -/
def out0_C_2 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) : Vec F S1024 .f32 :=
  VO0_2.read (Elt F) (VO0_2.writes (Elt F) VO0_2.junk (kernelRun0_C c i arg1 harg1 arg2 harg2 arg3 harg3 arg4 harg4 arg5 harg5 hc0 hc1 x0 x1 xs0 xs1).1)

/-- Case C stores nothing into scratch `arg4`: it holds what the point before left. -/
def sout0_C_0 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) : Vec F S1024x1024 .bf16 := xs0

/-- Case C's pieces for scratch `arg5`, which the kernel carries between points, cover it: 1 piece of `S1024` tiling it (Lib/Ring.lean `Piece.tiledL`). -/
theorem scover0_C_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) (y : S1024.Idx) :
    ∃ pc ∈ (kernelRun0_C c i arg1 harg1 arg2 harg2 arg3 harg3 arg4 harg4 arg5 harg5 hc0 hc1 x0 x1 xs0 xs1).2.2.1, y ∈ pc.1.set :=
  View.cover_of_tiledL (kernelRun0_C c i arg1 harg1 arg2 harg2 arg3 harg3 arg4 harg4 arg5 harg5 hc0 hc1 x0 x1 xs0 xs1).2.2.1 S1024.size (by sl_kernel_rfl) y

/-- What case C leaves in scratch `arg5`: its pieces read back over junk. -/
def sout0_C_1 (c : Dev nD) (i : grid0.Coords) (arg1 : Memref sig .tc .vmem S1024x1024 .f32) (harg1 : arg1.IsWhole) (arg2 : Memref sig .tc .vmem S2048x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (hc0 : ¬cond0_0 i) (hc1 : cond0_1 i)
    (x0 : Vec F S1024x1024 .f32) (x1 : Vec F S2048x1024 .f32) (xs0 : Vec F S1024x1024 .bf16) (xs1 : Vec F S1024 .f32) : Vec F S1024 .f32 :=
  VS0_1.read (Elt F) (VS0_1.writes (Elt F) VS0_1.junk (kernelRun0_C c i arg1 harg1 arg2 harg2 arg3 harg3 arg4 harg4 arg5 harg5 hc0 hc1 x0 x1 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024 .f32 × Vec F S1024x1024 .bf16 × Vec F S1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ stgRest c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ stgRest c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ stgRest c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1; (try dsimp only)
        iintro ⟨⟨⟨HS0, HS1, HR⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _)
            iexact HR
          iexact Hg
        isplitl [Ho]; · iexact Ho
        isplitl [H0]; · iexact H0
        isplitl [H1]; · iexact H1
        iexists _; iexact H2
      · exfalso; have hN : t.val < 32 := lt_of_lt_of_eq t.isLt (show cfg0.N = 32 from N_0); omega
  · by_cases h1 : t.val % 32 = 31
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      by_cases hz : t.val = 0
      · exfalso; have hN : t.val < 32 := lt_of_lt_of_eq t.isLt (show cfg0.N = 32 from N_0); omega
      · rw [PhiS_castSucc V c t, PhiS_pos V c _ _ hz]
        rw [outsAt0_C V c t h0 h1]
        unfold out0_C_2 sout0_C_0 sout0_C_1; (try dsimp only)
        iintro ⟨⟨⟨HS0, HS1, HR⟩, Hg⟩, Ho, ⟨%d0, H0⟩, ⟨%d1, H1⟩, ⟨%d2, H2⟩⟩
        iapply ((kernelRun0_C c (grid0.coords t) _ _ _ _ _ _ _ _ _ _ (fun h => h0 ((hcond0_0 t).mp h)) ((hcond0_1 t).mpr h1) (iblk0 V c 0 t) (iblk0 V c 1 t) _ _).2.2.2 Set.univ _)
        isplitl [H0]; · iexact H0
        isplitl [H1]; · iexact H1
        isplitl [H2]; · iexists _; iexact H2
        isplitl [HS0]; · iexact HS0
        isplitl [HS1]; · iexact HS1
        iintro ⟨H0, H1, ⟨%e2, H2⟩, HS0, ⟨%es1, HS1⟩⟩
        isplitl [HS0 HS1 HR Hg]
        · isplitl [HS0 HS1 HR]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc V c t, PhiS_pos V c _ _ hz]
        rw [outsAt0_B V c t h0 h1]
        unfold sout0_B_0 sout0_B_1; (try dsimp only)
        iintro ⟨⟨⟨HS0, HS1, HR⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, HS0, ⟨%es1, HS1⟩⟩
        isplitl [HS0 HS1 HR Hg]
        · isplitl [HS0 HS1 HR]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _)
            iexact HR
          iexact Hg
        isplitl [Ho]; · iexact Ho
        isplitl [H0]; · iexact H0
        isplitl [H1]; · iexact H1
        iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]
    · iexists _; iexact HS0
    isplitl [HS1]
    · iexists _; iexact HS1
    iexact HR
  iexact Hg

/-- The same after the last point. -/
theorem hout0 (c : Dev nD) : (dat0 V c).Φ (Fin.last cfg0.N) ⊢ Pipeline.ΦA spec0 c :=
  Phi_out V c _ (by rw [Fin.val_last]; have : cfg0.N = 32 := N_0; omega)

end Cert.KernelIdeal.Whole

end
-- ==== Proof.KernelIdealCall1.lean ====
/- Custom_call 1 over the contents V its region is entered with: the body run, the proof data and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__post_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S32x32 := Rect.unit (s := S32x32) ![0, 0] S32x32.size inb_S32x32_S32x32_0_0
abbrev r1_1 : Rect S1x1 := Rect.unit (s := S1x1) ![0, 0] S1x1.size inb_S1x1_S1x1_0_0
abbrev r1_2 : Rect S448x32 := Rect.unit (s := S448x32) ![0, 0] S448x32.size inb_S448x32_S448x32_0_0
abbrev r1_3 : Rect S448x448 := Rect.unit (s := S448x448) ![0, 0] S448x448.size inb_S448x448_S448x448_0_0

/-! ## What the body leaves in each output window's buffer -/

/-! ### Values of the body that the stores' payloads, spelt out, would write more than once

    Each is a vector the body binds (often a part call's result), stated over the input windows' blocks and
    numbered on from the skeleton's payload functions (`k1_pay27` …, after `k1_pay26`), so that
    `out1_W` and the values after it name it instead of spelling it out; the comment after each is the printed function's
    name for the value (a count appended where that name is bound again). -/

def k1_pay27 (x0 : Vec F S32x32 .f32) (x1 : Vec F S448x32 .f32) : IVec S32x32 32 :=
  k1_pay4 -- `v6`
def k1_pay28 (x0 : Vec F S32x32 .f32) (x1 : Vec F S448x32 .f32) : FVec F S32x32 .f32 :=
  k1_pay8 (View.ld x0 r1_0) -- `v40`
def k1_pay29 (x0 : Vec F S32x32 .f32) (x1 : Vec F S448x32 .f32) : FVec F S32x32 .f32 :=
  k1_pay11 (View.ld x0 r1_0) -- `v46`
def k1_pay30 (x0 : Vec F S32x32 .f32) (x1 : Vec F S448x32 .f32) : FVec F S32x32 .f32 :=
  k1_pay17 (k1_pay27 x0 x1) (k1_pay28 x0 x1) (k1_pay29 x0 x1) -- `v91`
def k1_pay31 (x0 : Vec F S32x32 .f32) (x1 : Vec F S448x32 .f32) : FVec F S1x1x1 .f32 :=
  k1_pay18 (k1_pay27 x0 x1) (k1_pay28 x0 x1) (k1_pay29 x0 x1) -- `v94`

/-- Window 2's staging buffer after the body, from the input windows' blocks: its 1 store as pieces, LAST
    FIRST (Lib/Pipeline/FrameBody.lean `View.canon`; the payloads are the skeleton's and the values stated above). -/
def out1_2 (x0 : Vec F S32x32 .f32) (x1 : Vec F S448x32 .f32) : Vec F S1x1 .f32 :=
  View.canon [⟨r1_1, k1_pay1 (k1_pay27 x0 x1) (k1_pay24 (k1_pay27 x0 x1) (k1_pay16 (k1_pay27 x0 x1) (k1_pay28 x0 x1) (k1_pay10 (View.ld x0 r1_0)) (k1_pay29 x0 x1)) (k1_pay30 x0 x1) (k1_pay31 x0 x1)) (k1_pay25 (k1_pay27 x0 x1) (k1_pay30 x0 x1) (k1_pay31 x0 x1)) (k1_pay26 (k1_pay27 x0 x1) (k1_pay30 x0 x1) (k1_pay31 x0 x1))⟩]

/-- Its stores tile the buffer (checked by evaluation), so they cover it. -/
theorem cover1_2 (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-- Window 3's staging buffer after the body, from the input windows' blocks: its 1 store as pieces, LAST
    FIRST (Lib/Pipeline/FrameBody.lean `View.canon`; the payloads are the skeleton's and the values stated above). -/
def out1_3 (x0 : Vec F S32x32 .f32) (x1 : Vec F S448x32 .f32) : Vec F S448x448 .f32 :=
  View.canon [⟨r1_3, k1_pay2 (k1_pay3 (View.ld x0 r1_0)) (View.ld x1 r1_2)⟩]

/-- Its stores tile the buffer (checked by evaluation), so they cover it. -/
theorem cover1_3 (p0 : Vec F S448x448 .f32) (y : S448x448.Idx) :
    ∃ pc ∈ ([⟨r1_3, p0⟩] : List (View.Piece (Elt F) S448x448 .f32)), y ∈ pc.1.set :=
  View.cover_of_tiled [⟨r1_3, p0⟩] S448x448.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs (Lib/Exec.lean), through every part call. -/
theorem sound_kernel1 (c : Dev nD) (E : Set ℕ) (arg0 : Memref sig .tc .vmem S32x32 .f32) (harg0 : arg0.IsWhole) (arg1 : Memref sig .tc .vmem S448x32 .f32) (harg1 : arg1.IsWhole) (arg2 : Memref sig .tc .vmem S1x1 .f32) (harg2 : arg2.IsWhole) (arg3 : Memref sig .tc .vmem S448x448 .f32) (harg3 : arg3.IsWhole)
    (x0 : Vec F S32x32 .f32) (x1 : Vec F S448x32 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1__post_body arg0 harg0 arg1 harg1 arg2 harg2 arg3 harg3) K := by
  simp only [cc1__post_body_eq_skeleton]; unfold cc1__post_body_skel
  simp only [k1_part1_eq_skeleton, k1_part2_eq_skeleton, k1_part3_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_2 _)).trans ?_
    rfl
  iexists _; isplitr
  swap; · iexact H3
  ipureintro
  refine (View.read_writes_eq_canon _ _ _ (cover1_3 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdealRun.lean ====
/- The run of @main: its two regions among the stretches of host operations, from the launch to the return. -/
module

public import proofs.«01_k».proof.Proof.KernelIdealCall0
public import proofs.«01_k».proof.Proof.KernelIdealCall1

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_cst, main_v2, main_v3, main_cst_0, main_v4, main_v5, main_cst_1, main_v6, main_v7, main_v8, main_v9, main_v10, main_v11, main_v12, main_v13, main_v14, main_cst_2, main_v15, main_v16, main_cst_3, main_v17, main_v18, main_cst_4, main_v19, main_v20, main_v21, main_v22, main_v23, main_v24, main_cst_5, main_v25, main_v26, main_cst_6, main_v27, main_v28, main_v29, main_cst_7, main_v30, main_v31, main_v32, main_cst_8, main_v33, main_v34, main_v35, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_call0_v2, main_call0_v3, main_call0_v4, main_call0_v5, main_call0_v6, main_v36]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_9, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v238]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2` (region 1's entry). -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have hback := hout0 (V0 m ρ) c
    unfold Pipeline.ΦA at hback
    rw [Pipeline.ownSems0_none, show (pdats m ρ 0 c).Φ (Fin.last _) = (dat0 (V0 m ρ) c).Φ (Fin.last _) from rfl]
    iintro H
    ihave H := hback $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every weakly fair execution of @main terminates, nothing
    faulting, every unscoped buffer ends at the last boundary's contents, and every semaphore counter ends at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The frame of the run: the argument arrays end as launched and every semaphore counter is back at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W6_main_arg0 m ρ c),
     (h.1 c _ (mem_uc main_arg1 (by decide))).trans (W6_main_arg1 m ρ c)⟩, h.2⟩) (run_all m ρ)

end Cert.KernelIdeal.Whole

end
-- ==== Proof.ERealFacts.lean ====
/-
  Facts about extended reals: a factor that is not negative and not +∞ goes through finite sums, a factor that is not
  negative goes through the supremum of a finite nonempty family, and the reciprocal of a norm plus a positive constant
  is such a factor.
-/
module

public import Idealize.ShloMosaic.PureOps.Ideal.Laws
public import Idealize.ShloMosaic.Lib.IdealHost

@[expose] public section

noncomputable section

open Idealize.ShloMosaic
open scoped BigOperators

namespace Cert.ERealFacts

/-- A factor that is not negative and not +∞ goes through a finite sum. -/
theorem mul_sum {ι : Type} (s : Finset ι) {a : EReal} (h0 : 0 ≤ a) (ht : a ≠ ⊤) (f : ι → EReal) :
    a * ∑ k ∈ s, f k = ∑ k ∈ s, a * f k := by
  classical
  induction s using Finset.induction_on with
  | empty => simp
  | insert i s hi ih => rw [Finset.sum_insert hi, Finset.sum_insert hi, EReal.left_distrib_of_nonneg_of_ne_top h0 ht, ih]

/-- The same with the factor on the right. -/
theorem sum_mul {ι : Type} (s : Finset ι) {a : EReal} (h0 : 0 ≤ a) (ht : a ≠ ⊤) (f : ι → EReal) :
    (∑ k ∈ s, f k) * a = ∑ k ∈ s, f k * a := by
  rw [mul_comm, mul_sum s h0 ht]
  exact Finset.sum_congr rfl fun k _ => mul_comm _ _

/-- A factor that is not negative goes through the supremum of a finite nonempty family. -/
theorem mul_iSup {ι : Type} [Finite ι] [Nonempty ι] {a : EReal} (h0 : 0 ≤ a) (f : ι → EReal) :
    a * ⨆ r, f r = ⨆ r, a * f r := by
  apply le_antisymm
  · obtain ⟨i, hi⟩ := exists_eq_ciSup_of_finite (f := f)
    rw [← hi]
    exact le_iSup (fun r => a * f r) i
  · exact iSup_le fun r => mul_le_mul_of_nonneg_left (le_iSup f r) h0

/-- The fold of `max` from −∞ over a finite index is the supremum. -/
theorem fold_max {ι : Type} [Fintype ι] (f : ι → EReal) : (Finset.univ : Finset ι).fold max ⊥ f = ⨆ r, f r :=
  Finset.sup_univ_eq_iSup f

/-- The square of an extended real is not negative. -/
theorem sq_nonneg (x : EReal) : 0 ≤ x * x := by
  rw [EReal.mul_nonneg_iff]
  rcases le_total 0 x with h | h
  · exact Or.inl ⟨h, h⟩
  · exact Or.inr ⟨h, h⟩

/-- The square root of an extended real that is not negative is not negative. -/
theorem sqrt_nonneg {x : EReal} (h : 0 ≤ x) : 0 ≤ Ideal.sqrt x := by
  induction x with
  | bot => exact absurd h (by simp)
  | top => exact le_top
  | coe r =>
    have hr : ¬ r < 0 := not_lt.mpr (EReal.coe_nonneg.mp h)
    show (0 : EReal) ≤ if r < 0 then ⊥ else (Real.sqrt r : EReal)
    rw [if_neg hr]
    exact EReal.coe_nonneg.mpr (Real.sqrt_nonneg r)

/-- The constant that both programs add to a norm. -/
def eps : EReal := Ideal.ofBits .f32 0x322BCC77#32

/-- That constant is positive. -/
theorem eps_pos : 0 < eps := by
  unfold eps
  simp [Ideal.ofBits, Ideal.ieee, -EReal.coe_mul]

/-- A row's norm plus that constant. -/
def den {n : Nat} (x : Fin n → EReal) : EReal := Ideal.sqrt (∑ k, x k * x k) + eps

/-- It is positive. -/
theorem den_pos {n : Nat} (x : Fin n → EReal) : 0 < den x :=
  lt_of_lt_of_le eps_pos (le_add_of_nonneg_left (sqrt_nonneg (Finset.sum_nonneg fun k _ => sq_nonneg (x k))))

/-- Its reciprocal. -/
def rnorm {n : Nat} (x : Fin n → EReal) : EReal := Ideal.div 1 (den x)

/-- The reciprocal is the inverse. -/
theorem rnorm_eq {n : Nat} (x : Fin n → EReal) : rnorm x = (den x)⁻¹ := by
  unfold rnorm Ideal.div
  rw [if_neg (den_pos x).ne', one_mul]

/-- The reciprocal is not negative. -/
theorem rnorm_nonneg {n : Nat} (x : Fin n → EReal) : 0 ≤ rnorm x := by
  rw [rnorm_eq]; exact EReal.inv_nonneg_of_nonneg (den_pos x).le

/-- The reciprocal is not +∞. -/
theorem rnorm_ne_top {n : Nat} (x : Fin n → EReal) : rnorm x ≠ ⊤ := by
  rw [rnorm_eq]; exact (EReal.inv_lt_top _).ne

/-- Dividing by the norm is multiplying by the reciprocal. -/
theorem div_den {n : Nat} (x : Fin n → EReal) (y : EReal) : Ideal.div y (den x) = y * rnorm x :=
  (Ideal.mul_one_div (den_pos x).ne').symm

/-- The product of a row that has been normalised with a query that has not. -/
def sim {n : Nat} (q m : Fin n → EReal) : EReal := ∑ k, (m k * rnorm m) * q k

/-- The product of two normalised rows is the query's reciprocal norm times the product above. -/
theorem cosine {n : Nat} (q m : Fin n → EReal) :
    ∑ k, Ideal.div (q k) (den q) * Ideal.div (m k) (den m) = rnorm q * sim q m := by
  unfold sim
  rw [mul_sum _ (rnorm_nonneg q) (rnorm_ne_top q)]
  refine Finset.sum_congr rfl fun k _ => ?_
  rw [div_den, div_den, mul_comm (q k), mul_assoc, mul_comm (q k)]

/-- The nearest-neighbour distance of a query `q` to the rows `m`: one minus the largest cosine. -/
def nnDist {n p : Nat} (q : Fin n → EReal) (m : Fin p → Fin n → EReal) : EReal := 1 - rnorm q * ⨆ r, sim q (m r)

/-- The same from the cosines themselves. -/
theorem nnDist_eq {n p : Nat} [NeZero p] (q : Fin n → EReal) (m : Fin p → Fin n → EReal) :
    1 - ⨆ r, ∑ k, Ideal.div (q k) (den q) * Ideal.div (m r k) (den (m r)) = nnDist q m := by
  unfold nnDist
  simp only [cosine]
  rw [mul_iSup (rnorm_nonneg q)]

end Cert.ERealFacts

end
-- ==== Proof.TopTen.lean ====
/-
  Ten rounds of "take the greatest entry and overwrite it with −∞" give the ten greatest entries, in order: both are read
  off the number of entries that are at least a given value.
-/
module

public import proofs.«01_k».proof.Proof.ERealFacts
public import Idealize.ShloMosaic.Lib.SortFacts

@[expose] public section

noncomputable section

open Idealize.ShloMosaic
open scoped BigOperators

namespace Cert.TopTen

variable {ι : Type} [Fintype ι]

open Classical in
/-- The number of entries that are at least `v`. -/
def cnt (f : ι → EReal) (v : EReal) : ℕ := (Finset.univ.filter fun i => v ≤ f i).card

/-- `g` is `f` with one of its greatest entries overwritten by −∞. -/
def Round (f g : ι → EReal) : Prop := ∃ p, (∀ i, f i ≤ f p) ∧ g p = ⊥ ∧ ∀ i, i ≠ p → g i = f i

/-- A round takes one entry away from those that are at least `v`, if there is one. -/
theorem cnt_round {f g : ι → EReal} (h : Round f g) {v : EReal} (hv : v ≠ ⊥) : cnt g v = cnt f v - 1 := by
  classical
  obtain ⟨p, hp, hb, ho⟩ := h
  have hset : (Finset.univ.filter fun i => v ≤ g i) = (Finset.univ.filter fun i => v ≤ f i).erase p := by
    ext i
    rw [Finset.mem_erase, Finset.mem_filter, Finset.mem_filter]
    by_cases hi : i = p
    · subst hi
      rw [hb]
      simp [hv]
    · rw [ho i hi]
      simp [hi]
  unfold cnt
  rw [show (Finset.univ.filter fun i => v ≤ g i).card = ((Finset.univ.filter fun i => v ≤ f i).erase p).card from
    congrArg Finset.card hset]
  by_cases hm : v ≤ f p
  · exact Finset.card_erase_of_mem (by simpa using hm)
  · have he : (Finset.univ.filter fun i => v ≤ f i) = ∅ := by
      ext i
      simpa using lt_of_le_of_lt (hp i) (not_le.mp hm)
    rw [he]
    rfl

/-- `n` rounds take `n` entries away. -/
theorem cnt_rounds (f : ℕ → ι → EReal) (h : ∀ n, Round (f n) (f (n + 1))) {v : EReal} (hv : v ≠ ⊥) (n : ℕ) :
    cnt (f n) v = cnt (f 0) v - n := by
  induction n with
  | zero => rfl
  | succ n ih => rw [cnt_round (h n) hv, ih, Nat.sub_sub]

/-- The greatest entry is at least `v` when some entry is. -/
theorem le_iSup_iff [Nonempty ι] (f : ι → EReal) (v : EReal) : v ≤ ⨆ i, f i ↔ 0 < cnt f v := by
  classical
  unfold cnt
  rw [Finset.card_pos]
  constructor
  · intro h
    obtain ⟨i, hi⟩ := exists_eq_ciSup_of_finite (f := f)
    exact ⟨i, by rw [Finset.mem_filter]; exact ⟨Finset.mem_univ _, hi ▸ h⟩⟩
  · rintro ⟨i, hi⟩
    exact le_trans (Finset.mem_filter.mp hi).2 (le_iSup f i)

/-- The greatest entry before round `n` is at least `v` when more than `n` entries are at the start. -/
theorem le_round_iff [Nonempty ι] (f : ℕ → ι → EReal) (h : ∀ n, Round (f n) (f (n + 1))) {v : EReal} (hv : v ≠ ⊥) (n : ℕ) :
    v ≤ ⨆ i, f n i ↔ n < cnt (f 0) v := by
  rw [le_iSup_iff, cnt_rounds f h hv]
  omega

/-- The `k`-th entry in descending order is at least `v` when more than `k` entries are. -/
theorem le_sorted_iff {n : ℕ} (a : Fin n → EReal) (σ : Fin n → Fin n) (hσ : Function.Bijective σ)
    (hs : ∀ i j, i < j → a (σ j) ≤ a (σ i)) (v : EReal) (k : Fin n) : v ≤ a (σ k) ↔ k.val < cnt a v := by
  classical
  have hc : cnt a v = (Finset.univ.filter fun j => v ≤ a (σ j)).card := by
    unfold cnt
    refine (Finset.card_bij (fun j _ => σ j) ?_ ?_ ?_).symm
    · intro j hj
      simpa using hj
    · intro i _ j _ hij
      exact hσ.1 hij
    · intro i hi
      obtain ⟨j, rfl⟩ := hσ.2 i
      exact ⟨j, by simpa using hi, rfl⟩
  rw [hc]
  have hle : ∀ i j, i ≤ j → a (σ j) ≤ a (σ i) := fun i j hij => by
    rcases hij.lt_or_eq with h | h
    · exact hs i j h
    · rw [h]
  constructor
  · intro h
    have : (Finset.Iic k).card ≤ (Finset.univ.filter fun j => v ≤ a (σ j)).card :=
      Finset.card_le_card fun j hj => by
        rw [Finset.mem_filter]
        exact ⟨Finset.mem_univ _, le_trans h (hle j k (Finset.mem_Iic.mp hj))⟩
    rw [Fin.card_Iic] at this
    omega
  · intro h
    by_contra hv
    have : (Finset.univ.filter fun j => v ≤ a (σ j)).card ≤ (Finset.Iio k).card :=
      Finset.card_le_card fun j hj => by
        rw [Finset.mem_Iio]
        by_contra hjk
        exact hv (le_trans (Finset.mem_filter.mp hj).2 (hle k j (not_lt.mp hjk)))
    rw [Fin.card_Iio] at this
    omega

/-- Extended reals that are at least the same values other than −∞ are equal. -/
theorem eq_of_le_iff {x y : EReal} (h : ∀ v, v ≠ ⊥ → (v ≤ x ↔ v ≤ y)) : x = y := by
  apply le_antisymm
  · by_cases hx : x = ⊥
    · rw [hx]; exact bot_le
    · exact (h x hx).mp le_rfl
  · by_cases hy : y = ⊥
    · rw [hy]; exact bot_le
    · exact (h y hy).mpr le_rfl

/-- The number of entries at least `v` does not depend on how the entries are indexed. -/
theorem cnt_comp {κ : Type} [Fintype κ] (a : κ → EReal) (e : ι → κ) (he : Function.Bijective e) (v : EReal) :
    cnt (fun i => a (e i)) v = cnt a v := by
  classical
  unfold cnt
  refine Finset.card_bij (fun j _ => e j) ?_ ?_ ?_
  · intro j hj
    simpa using hj
  · intro i _ j _ hij
    exact he.1 hij
  · intro i hi
    obtain ⟨j, rfl⟩ := he.2 i
    exact ⟨j, by simpa using hi, rfl⟩

/-- The greatest entry before round `k` is the `k`-th entry in descending order. -/
theorem round_eq_sorted [Nonempty ι] {n : ℕ} (a : Fin n → EReal) (σ : Fin n → Fin n) (hσ : Function.Bijective σ)
    (hs : ∀ i j, i < j → a (σ j) ≤ a (σ i)) (f : ℕ → ι → EReal) (h : ∀ n, Round (f n) (f (n + 1)))
    (e : ι → Fin n) (he : Function.Bijective e) (h0 : ∀ i, f 0 i = a (e i)) (k : Fin n) :
    ⨆ i, f k.val i = a (σ k) := by
  refine eq_of_le_iff fun v hv => ?_
  rw [le_round_iff f h hv, le_sorted_iff a σ hσ hs, show f 0 = fun i => a (e i) from funext h0, cnt_comp a e he]

end Cert.TopTen

end
-- ==== Proof.ScoreRounds.lean ====
/-
  The anomaly map's call, its score: ten rounds of "the greatest entry, then −∞ over the first place that holds it".
-/
module

public import proofs.«01_k».proof.Proof.TopTen
public import proofs.«01_k».proof.Proof.KernelIdealCall1
public import Idealize.ShloMosaic.Lib.Pointwise
public import Idealize.ShloMosaic.Lib.SortNet.Extract

@[expose] public section

set_option maxRecDepth 16384

noncomputable section

open Idealize.ShloMosaic hiding ix2
open Idealize.ShloMosaic.ValueIdx
open scoped BigOperators

namespace Cert.KernelIdeal.Score

open Cert.KernelIdeal Cert.KernelIdeal.Gen Cert.KernelIdeal.Whole Cert.TopTen

section generic

variable {F : FTy → Type} [FloatOps F]

/-- The greatest entry of a map, as the kernel reduces it. -/
def greatest (y : FVec F S32x32 .f32) : F .f32 :=
  extractAt ![0, 0, 0] (shapeCast S1x1x1 (multiReduction .maximumf [1, 2] S1
    (shapeCast S1x32x32 y shapeCasts_S32x32_S1x32x32) 0xFF800000#32 reduces_S1x32x32_S1 (.inl rfl) rfl)
    shapeCasts_S1_S1x1x1) inpos_S1x1x1_p0_0_0

/-- The number of the first place that holds a value, as the kernel reduces it. -/
def place (y : FVec F S32x32 .f32) (m : F .f32) : BitVec 32 :=
  extractAt ![0, 0, 0] (shapeCast S1x1x1 (multiReductionI .minsi [1, 2] S1
    (shapeCast S1x32x32 (select (cmpf .oeq y (broadcast S32x32 m)) k1_pay4 (broadcast S32x32 1048576#32))
      shapeCasts_S32x32_S1x32x32) 2147483647#32 reduces_S1x32x32_S1 rfl) shapeCasts_S1_S1x1x1) inpos_S1x1x1_p0_0_0

/-- A map with −∞ at the first place that holds its greatest entry. -/
def next (y : FVec F S32x32 .f32) : FVec F S32x32 .f32 :=
  select (cmpi .eq k1_pay4 (broadcast S32x32 (place y (greatest y))))
    (broadcast S32x32 (Scalar.ofBits .f32 0xFF800000#32)) y

/-- The map after `n` rounds. -/
def rounds (y : FVec F S32x32 .f32) : ℕ → FVec F S32x32 .f32
  | 0 => y
  | n + 1 => next (rounds y n)

/-- The sum of the greatest entries of `n` rounds, added one after another to zero. -/
def total (y : FVec F S32x32 .f32) : ℕ → F .f32
  | 0 => Scalar.ofBits .f32 0x00000000#32
  | n + 1 => Scalar.addf (total y n) (greatest (rounds y n))

theorem pay6_eq (v : FVec F S32x32 .f32) : k1_pay6 v = next (k1_pay3 v) := rfl
theorem pay7_eq (v : FVec F S32x32 .f32) : k1_pay7 v = greatest (k1_pay6 v) := rfl
theorem pay8_eq (v : FVec F S32x32 .f32) : k1_pay8 v = next (k1_pay6 v) := rfl
theorem pay9_eq (v : FVec F S32x32 .f32) : k1_pay9 v = greatest (k1_pay8 v) := rfl
theorem pay12_eq (v : FVec F S32x32 .f32) : k1_pay12 k1_pay4 (k1_pay8 v) (k1_pay11 v) = next (k1_pay8 v) := rfl
theorem pay14_eq (a b : FVec F S32x32 .f32) : k1_pay14 k1_pay4 a b = next (k1_pay12 k1_pay4 a b) := rfl
theorem pay17_eq (a b : FVec F S32x32 .f32) : k1_pay17 k1_pay4 a b = next (k1_pay14 k1_pay4 a b) := rfl
theorem pay16_eq (a b : FVec F S32x32 .f32) (t : F .f32) : k1_pay16 k1_pay4 a t b
    = Scalar.addf (Scalar.addf t (greatest (k1_pay12 k1_pay4 a b))) (greatest (k1_pay14 k1_pay4 a b)) := rfl
theorem pay20_eq (a b : FVec F S32x32 .f32) : k1_pay20 k1_pay4 (k1_pay17 k1_pay4 a b) (k1_pay18 k1_pay4 a b)
    = next (k1_pay17 k1_pay4 a b) := rfl
theorem pay22_eq (z : FVec F S32x32 .f32) (w : FVec F S1x1x1 .f32) : k1_pay22 k1_pay4 z w = next (k1_pay20 k1_pay4 z w) := rfl
theorem pay25_eq (z : FVec F S32x32 .f32) (w : FVec F S1x1x1 .f32) : k1_pay25 k1_pay4 z w = next (k1_pay22 k1_pay4 z w) := rfl
theorem pay24_eq (a b : FVec F S32x32 .f32) (t : F .f32) :
    k1_pay24 k1_pay4 t (k1_pay17 k1_pay4 a b) (k1_pay18 k1_pay4 a b)
      = Scalar.addf (Scalar.addf (Scalar.addf t (greatest (k1_pay17 k1_pay4 a b)))
          (greatest (k1_pay20 k1_pay4 (k1_pay17 k1_pay4 a b) (k1_pay18 k1_pay4 a b))))
          (greatest (k1_pay22 k1_pay4 (k1_pay17 k1_pay4 a b) (k1_pay18 k1_pay4 a b))) := rfl
theorem pay1_eq (z : FVec F S32x32 .f32) (w : FVec F S1x1x1 .f32) (t : F .f32) :
    k1_pay1 k1_pay4 t (k1_pay25 k1_pay4 z w) (k1_pay26 k1_pay4 z w)
      = broadcast S1x1 (Scalar.divf (Scalar.addf (Scalar.addf t (greatest (k1_pay25 k1_pay4 z w)))
          (greatest (next (k1_pay25 k1_pay4 z w)))) (Scalar.ofBits .f32 0x41200000#32)) := rfl
theorem pay10_eq (v : FVec F S32x32 .f32) : k1_pay10 v
    = Scalar.addf (Scalar.addf (Scalar.addf (Scalar.ofBits .f32 0x00000000#32) (greatest (k1_pay3 v))) (greatest (k1_pay6 v)))
        (greatest (k1_pay8 v)) := rfl

/-- The stored score is the sum of ten rounds over ten. -/
theorem score_eq (v : FVec F S32x32 .f32) :
    k1_pay1 k1_pay4 (k1_pay24 k1_pay4 (k1_pay16 k1_pay4 (k1_pay8 v) (k1_pay10 v) (k1_pay11 v))
        (k1_pay17 k1_pay4 (k1_pay8 v) (k1_pay11 v)) (k1_pay18 k1_pay4 (k1_pay8 v) (k1_pay11 v)))
      (k1_pay25 k1_pay4 (k1_pay17 k1_pay4 (k1_pay8 v) (k1_pay11 v)) (k1_pay18 k1_pay4 (k1_pay8 v) (k1_pay11 v)))
      (k1_pay26 k1_pay4 (k1_pay17 k1_pay4 (k1_pay8 v) (k1_pay11 v)) (k1_pay18 k1_pay4 (k1_pay8 v) (k1_pay11 v)))
      = broadcast S1x1 (Scalar.divf (total (k1_pay3 v) 10) (Scalar.ofBits .f32 0x41200000#32)) := by
  rw [pay1_eq, pay24_eq, pay16_eq, pay25_eq, pay22_eq, pay20_eq, pay17_eq, pay14_eq, pay12_eq, pay10_eq, pay8_eq, pay6_eq]
  simp only [total, rounds]

end generic

/-- The 32 × 32 map as a stack of one map: entry `(a, b)`. -/
theorem stack_apply {α : Type} (y : S32x32.Idx → α) (i : S1x32x32.Idx) :
    shapeCast S1x32x32 y shapeCasts_S32x32_S1x32x32 i = y (ix2 (i 1) (i 2)) :=
  shapeCast_apply y shapeCasts_S32x32_S1x32x32 i (ix2 (i 1) (i 2)) (by
    rw [Shape.rowMajor_val_two, Shape.rowMajor_val_three]
    have h0 : (i 0).val < 1 := (i 0).isLt
    show (i 1).val * 32 + (i 2).val = ((i 0).val * 32 + (i 1).val) * 32 + (i 2).val
    omega)

/-- A vector of one entry as a 1 × 1 × 1 array: its entry. -/
theorem unit_apply {α : Type} (y : S1.Idx → α) (i : S1.Idx) :
    extractAt ![0, 0, 0] (shapeCast S1x1x1 y shapeCasts_S1_S1x1x1) inpos_S1x1x1_p0_0_0 = y i := by
  refine congrArg y ?_
  funext d
  exact Fin.ext (by
    match d with
    | ⟨0, _⟩ => exact (Nat.lt_one_iff.mp (Fin.isLt _)).trans (Nat.lt_one_iff.mp (Fin.isLt (i 0))).symm)

/-- The one index of a vector of one entry. -/
def one : S1.Idx := fun d => match d with | ⟨0, _⟩ => ⟨0, Nat.one_pos⟩

/-- Every index of the stack drops to it. -/
theorem drop_eq (i : S1x32x32.Idx) : reduces_S1x32x32_S1.drop i = one := by
  funext d
  exact Fin.ext (by
    match d with
    | ⟨0, _⟩ => exact Nat.lt_one_iff.mp (Fin.isLt _))

/-- The kernel's greatest entry is the supremum of the map. -/
theorem greatest_eq (y : FVec Ideal S32x32 .f32) : greatest (F := Ideal) y = ⨆ i : S32x32.Idx, (y i : EReal) := by
  unfold greatest
  refine (unit_apply _ one).trans ((multiReduction_maximumf_eq_fold _ _ _ _ _ one).trans ?_)
  rw [Finset.filter_true_of_mem fun i _ => drop_eq i]
  show Finset.fold max (Ideal.ofBits .f32 0xFF800000#32) _ _ = _
  rw [show Ideal.ofBits .f32 0xFF800000#32 = ⊥ by simp [Ideal.ofBits, Ideal.ieee], ERealFacts.fold_max]
  apply le_antisymm
  · refine iSup_le fun i => ?_
    rw [stack_apply]
    exact le_iSup (fun i : S32x32.Idx => (y i : EReal)) _
  · refine iSup_le fun i => ?_
    have h : y i = shapeCast S1x32x32 y shapeCasts_S32x32_S1x32x32
        (fun d => match d with | ⟨0, _⟩ => ⟨0, Nat.one_pos⟩ | ⟨1, _⟩ => i 0 | ⟨2, _⟩ => i 1) := by
      rw [stack_apply]
      exact congrArg y (ValueIdx.eq_ix2 i)
    rw [h]
    exact le_iSup (fun k : S1x32x32.Idx => (shapeCast S1x32x32 y shapeCasts_S32x32_S1x32x32 k : EReal)) _

/-- The number of a place. -/
theorem number_toNat (i : S32x32.Idx) : (k1_pay4 i).toNat = (i 0).val * 32 + (i 1).val := by
  have h0 : (i 0).val < 32 := (i 0).isLt
  have h1 : (i 1).val < 32 := (i 1).isLt
  show (BitVec.ofNat 32 (0 * 32 + (i 0).val) * 32#32 + BitVec.ofNat 32 (0 * 32 + (i 1).val)).toNat = _
  rw [BitVec.toNat_add, BitVec.toNat_mul, BitVec.toNat_ofNat, BitVec.toNat_ofNat, BitVec.toNat_ofNat]
  omega

/-- A number is the number of one place. -/
theorem number_injective {i j : S32x32.Idx} (h : k1_pay4 i = k1_pay4 j) : i = j := by
  have h' := congrArg BitVec.toNat h
  rw [number_toNat, number_toNat] at h'
  have h1 : (i 1).val < 32 := (i 1).isLt
  have h2 : (j 1).val < 32 := (j 1).isLt
  rw [ValueIdx.eq_ix2 i, ValueIdx.eq_ix2 j]
  have ha : i 0 = j 0 := Fin.ext (by omega)
  have hb : i 1 = j 1 := Fin.ext (by omega)
  rw [ha, hb]

/-- Read as a signed integer, a number is the same number. -/
theorem number_toInt (i : S32x32.Idx) : (k1_pay4 i).toInt = ((i 0).val * 32 + (i 1).val : ℕ) := by
  have h0 : (i 0).val < 32 := (i 0).isLt
  have h1 : (i 1).val < 32 := (i 1).isLt
  rw [BitVec.toInt_eq_toNat_of_lt (by rw [number_toNat]; omega), number_toNat]

/-- A fold of the signed minimum is at most every word met, and is the start or one of them. -/
theorem fold_least {ι : Type} (s : Finset ι) (g : ι → BitVec 32) (b : BitVec 32) :
    (∀ i ∈ s, (s.fold (IKind.op .minsi) b g).toInt ≤ (g i).toInt)
      ∧ (s.fold (IKind.op .minsi) b g = b ∨ ∃ i ∈ s, s.fold (IKind.op .minsi) b g = g i) := by
  classical
  induction s using Finset.induction_on with
  | empty => exact ⟨fun i hi => absurd hi (Finset.notMem_empty i), Or.inl rfl⟩
  | insert a s ha ih =>
    rw [Finset.fold_insert ha]
    have ht : (IKind.op .minsi (g a) (s.fold (IKind.op .minsi) b g)).toInt
        = min (g a).toInt (s.fold (IKind.op .minsi) b g).toInt := SortNet.toInt_minsi _ _
    refine ⟨fun i hi => ?_, ?_⟩
    · rw [ht]
      rcases Finset.mem_insert.mp hi with rfl | hi
      · exact min_le_left _ _
      · exact le_trans (min_le_right _ _) (ih.1 i hi)
    · have hc : IKind.op .minsi (g a) (s.fold (IKind.op .minsi) b g) = g a
          ∨ IKind.op .minsi (g a) (s.fold (IKind.op .minsi) b g) = s.fold (IKind.op .minsi) b g := by
        show (if (g a).slt _ then g a else _) = _ ∨ (if (g a).slt _ then g a else _) = _
        by_cases h : (g a).slt (s.fold (IKind.op .minsi) b g)
        · exact Or.inl (if_pos h)
        · exact Or.inr (if_neg h)
      rcases hc with h | h
      · exact Or.inr ⟨a, Finset.mem_insert_self a s, h⟩
      · rw [h]
        rcases ih.2 with h | ⟨i, hi, h⟩
        · exact Or.inl h
        · exact Or.inr ⟨i, Finset.mem_insert_of_mem hi, h⟩

/-- The word that a place gives to the search for a value. -/
theorem mark_apply (y : FVec Ideal S32x32 .f32) (m : EReal) (i : S32x32.Idx) :
    select (cmpf .oeq y (broadcast S32x32 m)) k1_pay4 (broadcast S32x32 1048576#32) i
      = if y i = m then k1_pay4 i else 1048576#32 := by
  show (if Ideal.cmp .oeq (y i) m = 1#1 then k1_pay4 i else 1048576#32) = _
  by_cases h : y i = m
  · rw [if_pos h, if_pos (by simp [Ideal.cmp, h])]
  · rw [if_neg h, if_neg (by simp [Ideal.cmp, h])]

/-- The search for a value that is there finds the number of a place that holds it. -/
theorem place_eq (y : FVec Ideal S32x32 .f32) (m : EReal) (h : ∃ i, y i = m) :
    ∃ p, y p = m ∧ place (F := Ideal) y m = k1_pay4 p := by
  obtain ⟨p, hp⟩ := h
  have hfold : place (F := Ideal) y m = (Finset.univ : Finset S1x32x32.Idx).fold (IKind.op .minsi) 2147483647#32
      (shapeCast S1x32x32 (select (cmpf .oeq y (broadcast S32x32 m)) k1_pay4 (broadcast S32x32 1048576#32))
        shapeCasts_S32x32_S1x32x32) := by
    unfold place
    refine (unit_apply _ one).trans ((multiReductionI_eq_fold _ _ _ _ _ one).trans ?_)
    rw [Finset.filter_true_of_mem fun i _ => drop_eq i]
  rw [hfold]
  generalize hg : shapeCast S1x32x32 (select (cmpf .oeq y (broadcast S32x32 m)) k1_pay4 (broadcast S32x32 1048576#32))
    shapeCasts_S32x32_S1x32x32 = g
  have hgi : ∀ i : S1x32x32.Idx, g i = if y (ix2 (i 1) (i 2)) = m then k1_pay4 (ix2 (i 1) (i 2)) else 1048576#32 := fun i => by
    rw [← hg, stack_apply]
    exact mark_apply y m _
  obtain ⟨hle, hor⟩ := fold_least (Finset.univ : Finset S1x32x32.Idx) g 2147483647#32
  have hpi := hle (fun d => match d with | ⟨0, _⟩ => ⟨0, Nat.one_pos⟩ | ⟨1, _⟩ => p 0 | ⟨2, _⟩ => p 1) (Finset.mem_univ _)
  have hpe : g (fun d => match d with | ⟨0, _⟩ => ⟨0, Nat.one_pos⟩ | ⟨1, _⟩ => p 0 | ⟨2, _⟩ => p 1) = k1_pay4 p := by
    rw [hgi]
    have he : ix2 (p 0) (p 1) = p := (ValueIdx.eq_ix2 p).symm
    exact (congrArg (fun q => if y q = m then k1_pay4 q else 1048576#32) he).trans (if_pos hp)
  have h0 : (p 0).val < 32 := (p 0).isLt
  have h1 : (p 1).val < 32 := (p 1).isLt
  rw [hpe, number_toInt] at hpi
  rcases hor with h | ⟨i, -, h⟩
  · rw [h, show (2147483647#32 : BitVec 32).toInt = 2147483647 from rfl] at hpi
    omega
  · rw [h]
    rw [h] at hpi
    rw [hgi] at hpi ⊢
    by_cases hy : y (ix2 (i 1) (i 2)) = m
    · exact ⟨_, hy, if_pos hy⟩
    · rw [if_neg hy, show (1048576#32 : BitVec 32).toInt = 1048576 from rfl] at hpi
      omega

/-- A map with a value written at the place of a given number. -/
theorem cover_apply (k : IVec S32x32 32) (w : BitVec 32) (c : EReal) (y : FVec Ideal S32x32 .f32) (i : S32x32.Idx) :
    select (cmpi .eq k (broadcast S32x32 w)) (broadcast S32x32 c) y i = if k i = w then c else y i := by
  show (if IntOp.cmpi .eq (k i) w = 1#1 then c else y i) = _
  by_cases h : k i = w
  · rw [if_pos h, if_pos (by simp [IntOp.cmpi, h])]
  · rw [if_neg h, if_neg (by have hb : (k i == w) = false := beq_false_of_ne h
                             simp [IntOp.cmpi, hb])]

/-- The pattern of −∞. -/
theorem ofBits_neg_inf : Ideal.ofBits .f32 0xFF800000#32 = ⊥ := by simp [Ideal.ofBits, Ideal.ieee]

/-- One step of the kernel writes −∞ at the place that the search found. -/
theorem next_apply (y : FVec Ideal S32x32 .f32) (p : S32x32.Idx) (hp : place (F := Ideal) y (greatest y) = k1_pay4 p)
    (i : S32x32.Idx) : next (F := Ideal) y i = if k1_pay4 i = k1_pay4 p then (⊥ : EReal) else y i := by
  unfold next
  rw [hp]
  refine (cover_apply k1_pay4 (k1_pay4 p) _ y i).trans ?_
  rw [show (Scalar.ofBits .f32 0xFF800000#32 : Ideal .f32) = (⊥ : EReal) from ofBits_neg_inf]

/-- One step of the kernel is one round. -/
theorem next_round (y : FVec Ideal S32x32 .f32) : Round (ι := S32x32.Idx) y (next (F := Ideal) y) := by
  haveI : Nonempty S32x32.Idx := ⟨ix2 0 0⟩
  have hex : ∃ i : S32x32.Idx, y i = greatest (F := Ideal) y := by
    rw [greatest_eq]
    exact exists_eq_ciSup_of_finite (f := fun i : S32x32.Idx => (y i : EReal))
  obtain ⟨p, hp, hplace⟩ := place_eq y _ hex
  refine ⟨p, fun i => ?_, ?_, fun i hi => ?_⟩
  · rw [hp, greatest_eq]
    exact le_iSup (fun i : S32x32.Idx => (y i : EReal)) i
  · rw [next_apply y p hplace, if_pos rfl]
  · rw [next_apply y p hplace, if_neg fun h => hi (number_injective h)]

end Cert.KernelIdeal.Score

end
-- ==== Proof.PostArrays.lean ====
/-
  The anomaly map's call: its two result arrays after the run, from the arrays it finds.
-/
module

public import proofs.«01_k».proof.Proof.ScoreRounds
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Post

open Cert.KernelIdeal Cert.KernelIdeal.Gen Cert.KernelIdeal.Whole Cert.KernelIdeal.Score

variable {F : FTy → Type} [FloatOps F]
variable (V : (c : Dev nD) → (b : Ref sig .tc) → Buf (Elt F) ((c : Thread nD τ).loc b)) (c : Dev nD)

/-- The offsets of a whole rectangle. -/
theorem zero2 : (![0, 0] : Fin 2 → Nat) = fun _ => 0 := funext fun a => by fin_cases a <;> rfl

/-- Window 0's block is its whole array. -/
theorem emb0 (t : Fin cfg1.N) (j : S32x32.Idx) : ((cfg1.win 0).blk t).view.emb j = j := by
  have e0 : win1_0.index t (0 : Fin 2) = 0 := rfl
  have e1 : win1_0.index t (1 : Fin 2) = 0 := rfl
  funext a; apply Fin.ext
  match a with
  | ⟨0, _⟩ => show win1_0.index t (0 : Fin 2) * 32 + 1 * (j 0).val = (j 0).val; omega
  | ⟨1, _⟩ => show win1_0.index t (1 : Fin 2) * 32 + 1 * (j 1).val = (j 1).val; omega

/-- Window 0 stages the whole of its array. -/
theorem block0 (t : Fin cfg1.N) : iblk1 V c 0 t = V c main_v236 := by
  funext j; show V c main_v236 (((cfg1.win 0).blk t).view.emb j) = V c main_v236 j; rw [emb0]

/-- Window 1's block is its whole array. -/
theorem emb1 (t : Fin cfg1.N) (j : S448x32.Idx) : ((cfg1.win 1).blk t).view.emb j = j := by
  have e0 : win1_1.index t (0 : Fin 2) = 0 := rfl
  have e1 : win1_1.index t (1 : Fin 2) = 0 := rfl
  funext a; apply Fin.ext
  match a with
  | ⟨0, _⟩ => show win1_1.index t (0 : Fin 2) * 448 + 1 * (j 0).val = (j 0).val; omega
  | ⟨1, _⟩ => show win1_1.index t (1 : Fin 2) * 32 + 1 * (j 1).val = (j 1).val; omega

/-- Window 1 stages the whole of its array. -/
theorem block1 (t : Fin cfg1.N) : iblk1 V c 1 t = V c main_v235 := by
  funext j; show V c main_v235 (((cfg1.win 1).blk t).view.emb j) = V c main_v235 j; rw [emb1]

/-- Window 2's block is its whole array. -/
theorem emb2 (t : Fin cfg1.N) (j : S1x1.Idx) : ((cfg1.win 2).blk t).view.emb j = j := by
  have e0 : win1_2.index t (0 : Fin 2) = 0 := rfl
  have e1 : win1_2.index t (1 : Fin 2) = 0 := rfl
  funext a; apply Fin.ext
  match a with
  | ⟨0, _⟩ => show win1_2.index t (0 : Fin 2) * 1 + 1 * (j 0).val = (j 0).val; omega
  | ⟨1, _⟩ => show win1_2.index t (1 : Fin 2) * 1 + 1 * (j 1).val = (j 1).val; omega

/-- Window 3's block is its whole array. -/
theorem emb3 (t : Fin cfg1.N) (j : S448x448.Idx) : ((cfg1.win 3).blk t).view.emb j = j := by
  have e0 : win1_3.index t (0 : Fin 2) = 0 := rfl
  have e1 : win1_3.index t (1 : Fin 2) = 0 := rfl
  funext a; apply Fin.ext
  match a with
  | ⟨0, _⟩ => show win1_3.index t (0 : Fin 2) * 448 + 1 * (j 0).val = (j 0).val; omega
  | ⟨1, _⟩ => show win1_3.index t (1 : Fin 2) * 448 + 1 * (j 1).val = (j 1).val; omega

/-- The first result as a function of the map: the sum of ten rounds over ten. -/
def scoreOf (y : FVec F S32x32 .f32) : FVec F S1x1 .f32 :=
  broadcast S1x1 (Scalar.divf (total y 10) (Scalar.ofBits .f32 0x41200000#32))

/-- The second result as a function of the map and the matrix. -/
def mapOf (y : FVec F S32x32 .f32) (x : FVec F S448x32 .f32) : FVec F S448x448 .f32 := k1_pay2 y x

/-- What the body stores in the first result. -/
theorem out2_eq (a0 : Vec F S32x32 .f32) (a1 : Vec F S448x32 .f32) : out1_2 (F := F) a0 a1 = scoreOf a0 := by
  unfold out1_2
  rw [View.canon_unit_zero zero2]
  unfold k1_pay31 k1_pay30 k1_pay29 k1_pay28 k1_pay27
  rw [View.ld_unit_zero (S := S32x32) zero2 _ a0, score_eq]
  unfold scoreOf k1_pay3
  rw [shapeCast_self]

/-- What the body stores in the second result. -/
theorem out3_eq (a0 : Vec F S32x32 .f32) (a1 : Vec F S448x32 .f32) : out1_3 (F := F) a0 a1 = mapOf a0 a1 := by
  unfold out1_3
  rw [View.canon_unit_zero zero2, View.ld_unit_zero (S := S32x32) zero2 _ a0, View.ld_unit_zero (S := S448x32) zero2 _ a1]
  unfold mapOf k1_pay3
  rw [shapeCast_self]

/-- Cutting the point's block out of `X` is reading `X` through the block. -/
theorem cut2_eq (t : Fin cfg1.N) (X : Vec F S1x1 .f32) :
    (cfg1.win 2).cut (grid1.coords t) X = ((cfg1.win 2).blk t).view.read (Elt F) X := by
  funext j
  show X j = X (((cfg1.win 2).blk t).view.emb j)
  rw [emb2]

/-- What the point writes back to result 1. -/
theorem flushed2_eq (t : Fin cfg1.N) :
    (dat1 V c).flushed 2 t = ((cfg1.win 2).blk t).view.read (Elt F) (scoreOf (V c main_v236)) := by
  show (cfg1.win 2).cut (grid1.coords t) ((dat1 V c).after 2 t) = _
  rw [after1_2, out2_eq, block0]
  exact cut2_eq t _

/-- Every index of the array is in the point's block. -/
theorem covered2 (i : S1x1.Idx) :
    ∃ t : Fin cfg1.N, (cfg1.win 2).flush t = true ∧ i ∈ ((cfg1.win 2).blk t).view.set :=
  ⟨(⟨0, by decide⟩ : Fin cfg1.N), flush1_2 _, by
    have h := ((cfg1.win 2).blk (⟨0, by decide⟩ : Fin cfg1.N)).view.emb_mem_set i
    rwa [emb2] at h⟩

/-- Result 1's array after the run. -/
theorem final2 : (dat1 V c).arrAt 2 cfg1.N = scoreOf (V c main_v236) :=
  (dat1 V c).arrAt_eq_of_cover 2 (scoreOf (V c main_v236)) (fun t _ => flushed2_eq V c t) covered2

/-- Cutting the point's block out of `X` is reading `X` through the block. -/
theorem cut3_eq (t : Fin cfg1.N) (X : Vec F S448x448 .f32) :
    (cfg1.win 3).cut (grid1.coords t) X = ((cfg1.win 3).blk t).view.read (Elt F) X := by
  funext j
  show X j = X (((cfg1.win 3).blk t).view.emb j)
  rw [emb3]

/-- What the point writes back to result 2. -/
theorem flushed3_eq (t : Fin cfg1.N) :
    (dat1 V c).flushed 3 t = ((cfg1.win 3).blk t).view.read (Elt F) (mapOf (V c main_v236) (V c main_v235)) := by
  show (cfg1.win 3).cut (grid1.coords t) ((dat1 V c).after 3 t) = _
  rw [after1_3, out3_eq, block0, block1]
  exact cut3_eq t _

/-- Every index of the array is in the point's block. -/
theorem covered3 (i : S448x448.Idx) :
    ∃ t : Fin cfg1.N, (cfg1.win 3).flush t = true ∧ i ∈ ((cfg1.win 3).blk t).view.set :=
  ⟨(⟨0, by decide⟩ : Fin cfg1.N), flush1_3 _, by
    have h := ((cfg1.win 3).blk (⟨0, by decide⟩ : Fin cfg1.N)).view.emb_mem_set i
    rwa [emb3] at h⟩

/-- Result 2's array after the run. -/
theorem final3 : (dat1 V c).arrAt 3 cfg1.N = mapOf (V c main_v236) (V c main_v235) :=
  (dat1 V c).arrAt_eq_of_cover 3 (mapOf (V c main_v236) (V c main_v235)) (fun t _ => flushed3_eq V c t) covered3

end Cert.KernelIdeal.Post

end
-- ==== Proof.Mirror.lean ====
/-
  The reflecting padding of 448 entries by 16 on each side: which entry each of the 480 places holds.
-/
module

public import Idealize.ShloMosaic.PureOps

@[expose] public section

namespace Cert.Mirror

/-- The entry at place `p` of the padded line: the first 16 places run backwards from entry 16 to entry 1, the middle holds
    the line itself, the last 16 places run backwards from entry 446. -/
def mirror (p : Fin 480) : Fin 448 :=
  ⟨if p.val < 16 then 16 - p.val else if p.val < 464 then p.val - 16 else 910 - p.val, by have := p.isLt; split_ifs <;> omega⟩

/-- The entry at a place of the line padded in front only. -/
def front (p : Fin 464) : Fin 448 :=
  ⟨if p.val < 16 then 16 - p.val else p.val - 16, by have := p.isLt; split_ifs <;> omega⟩

/-- Before the place 464 the two agree. -/
theorem mirror_front (p : Fin 480) (h : p.val < 464) : mirror p = front ⟨p.val, h⟩ := by
  apply Fin.ext; simp only [mirror, front, if_pos h]

/-- From the place 464 on the padded line repeats the front-padded line backwards from its place 462. -/
theorem mirror_back (p : Fin 480) (h : ¬ p.val < 464) : mirror p = front ⟨462 - (p.val - 464), by have := p.isLt; omega⟩ := by
  apply Fin.ext
  have hp := p.isLt
  simp only [mirror, front, if_neg h]
  rw [if_neg (by omega), if_neg (by omega)]
  omega

/-- The place a tap of the filter reads: `t` further than `i`. -/
def tapAt (i : Fin 448) (t : Fin 33) : Fin 480 := ⟨i.val + t.val, by have := i.isLt; have := t.isLt; omega⟩

end Cert.Mirror
-- ==== Proof.HostReads.lean ====
/-
  What the host computations between the two calls leave: the distances as a grid, and the blurred resize matrix.
-/
module

public import proofs.«01_k».proof.Proof.Gen.KernelIdeal.Launch
public import proofs.«01_k».proof.Proof.Mirror
public import Idealize.ShloMosaic.Lib.StableHlo.RunRead
public import Idealize.ShloMosaic.Lib.Pipeline.Value

@[expose] public section

set_option maxRecDepth 16384

noncomputable section

open Idealize.ShloMosaic Idealize.ShloMosaic.TcCoe Idealize.SL.Sem

namespace Cert.KernelIdeal.Host

open Cert.KernelIdeal Cert.KernelIdeal.Gen

variable {F : FTy → Type} [FloatOps F]

/-- The matrix of zeros the accumulation starts from. -/
def zeroMap : FVec F S448x32 .f32 :=
  broadcastInDim S448x32 ![] bcast_S_S448x32 (constant S_ .f32 0x00000000#32 : FVec F S_ .f32)

/-- One step of the accumulation: weight `t` times the padded rows from row `t` on, added to what is there. -/
def tap (t : ℕ) (hk : S33.Slices ![t] S1) (hp : S480x32.Slices ![t, 0] S448x32)
    (k : FVec F S33 .f32) (p : FVec F S480x32 .f32) (acc : FVec F S448x32 .f32) : FVec F S448x32 .f32 :=
  addf acc (mulf (broadcastInDim S448x32 ![] bcast_S_S448x32
    (shapeCast S_ (extractStridedSlice S1 ![t] k hk) shapeCasts_S1_S_)) (extractStridedSlice S448x32 ![t, 0] p hp))

/-- The accumulation of all 33 weights. -/
def taps (k : FVec F S33 .f32) (p : FVec F S480x32 .f32) : FVec F S448x32 .f32 :=
  tap 32 slices_S33_S1_32 slices_S480x32_S448x32_32_0 k p (tap 31 slices_S33_S1_31 slices_S480x32_S448x32_31_0 k p (tap 30 slices_S33_S1_30 slices_S480x32_S448x32_30_0 k p (tap 29 slices_S33_S1_29 slices_S480x32_S448x32_29_0 k p (tap 28 slices_S33_S1_28 slices_S480x32_S448x32_28_0 k p (tap 27 slices_S33_S1_27 slices_S480x32_S448x32_27_0 k p (tap 26 slices_S33_S1_26 slices_S480x32_S448x32_26_0 k p (tap 25 slices_S33_S1_25 slices_S480x32_S448x32_25_0 k p (tap 24 slices_S33_S1_24 slices_S480x32_S448x32_24_0 k p (tap 23 slices_S33_S1_23 slices_S480x32_S448x32_23_0 k p (tap 22 slices_S33_S1_22 slices_S480x32_S448x32_22_0 k p (tap 21 slices_S33_S1_21 slices_S480x32_S448x32_21_0 k p (tap 20 slices_S33_S1_20 slices_S480x32_S448x32_20_0 k p (tap 19 slices_S33_S1_19 slices_S480x32_S448x32_19_0 k p (tap 18 slices_S33_S1_18 slices_S480x32_S448x32_18_0 k p (tap 17 slices_S33_S1_17 slices_S480x32_S448x32_17_0 k p (tap 16 slices_S33_S1_16 slices_S480x32_S448x32_16_0 k p (tap 15 slices_S33_S1_15 slices_S480x32_S448x32_15_0 k p (tap 14 slices_S33_S1_14 slices_S480x32_S448x32_14_0 k p (tap 13 slices_S33_S1_13 slices_S480x32_S448x32_13_0 k p (tap 12 slices_S33_S1_12 slices_S480x32_S448x32_12_0 k p (tap 11 slices_S33_S1_11 slices_S480x32_S448x32_11_0 k p (tap 10 slices_S33_S1_10 slices_S480x32_S448x32_10_0 k p (tap 9 slices_S33_S1_9 slices_S480x32_S448x32_9_0 k p (tap 8 slices_S33_S1_8 slices_S480x32_S448x32_8_0 k p (tap 7 slices_S33_S1_7 slices_S480x32_S448x32_7_0 k p (tap 6 slices_S33_S1_6 slices_S480x32_S448x32_6_0 k p (tap 5 slices_S33_S1_5 slices_S480x32_S448x32_5_0 k p (tap 4 slices_S33_S1_4 slices_S480x32_S448x32_4_0 k p (tap 3 slices_S33_S1_3 slices_S480x32_S448x32_3_0 k p (tap 2 slices_S33_S1_2 slices_S480x32_S448x32_2_0 k p (tap 1 slices_S33_S1_1 slices_S480x32_S448x32_1_0 k p (tap 0 slices_S33_S1_0 slices_S480x32_S448x32_0_0 k p (zeroMap)))))))))))))))))))))))))))))))))

set_option maxHeartbeats 4000000 in
/-- The accumulated matrix is the accumulation over the weights and the padded rows found. -/
theorem blurred (V : Valuation τ sig (Elt F)) :
    StableHlo.after hostOps1_2 V (Proc.devRef .tc main_v235)
      = taps (V (Proc.devRef .tc main_v35)) (V (Proc.devRef .tc main_v36)) := by
  after_reads_simp <;> rfl

set_option maxHeartbeats 4000000 in
/-- The grid is the distances found, in rows of 32. -/
theorem grid (V : Valuation τ sig (Elt F)) :
    StableHlo.after hostOps1_2 V (Proc.devRef .tc main_v236)
      = shapeCast S32x32 (V (Proc.devRef .tc main_v0) : FVec F S1024 .f32) shapeCasts_S1024_S32x32 := by
  after_reads_simp <;> rfl

end Cert.KernelIdeal.Host
-- ==== Proof.HostArrays.lean ====
/-
  The kernel's resize weights, its Gaussian weights, and the padded resize matrix, as the host computes them.
-/
module

public import proofs.«01_k».proof.Proof.HostReads

@[expose] public section

set_option maxRecDepth 16384

noncomputable section

open Idealize.ShloMosaic Idealize.ShloMosaic.TcCoe Idealize.SL.Sem

namespace Cert.KernelIdeal.Host

open Cert.KernelIdeal Cert.KernelIdeal.Gen Cert.Mirror

variable {F : FTy → Type} [FloatOps F]

/-- The place in the coarse grid that each of the 448 fine places samples. -/
def samples : FVec F S448 .f32 :=
  subf (Host.divf (addf (sitofp .f32 (iotaInDim S448 32 0)) (broadcastInDim S448 ![] bcast_S_S448 (constant S_ .f32 0x3F000000#32 : FVec F S_ .f32)))
    (broadcastInDim S448 ![] bcast_S_S448 (constant S_ .f32 0x41600000#32 : FVec F S_ .f32)))
    (broadcastInDim S448 ![] bcast_S_S448 (constant S_ .f32 0x3F000000#32 : FVec F S_ .f32))

/-- The hat function of the distance between a coarse place and a sampled place. -/
def hats : FVec F S32x448 .f32 :=
  maximumf (broadcastInDim S32x448 ![] bcast_S_S32x448 (constant S_ .f32 0x00000000#32 : FVec F S_ .f32))
    (subf (broadcastInDim S32x448 ![] bcast_S_S32x448 (constant S_ .f32 0x3F800000#32 : FVec F S_ .f32))
      (Host.absf (subf
        (broadcastInDim S32x448 ![0, 1] bcast_S1x448_S32x448_0_1 (broadcastInDim S1x448 ![1] bcast_S448_S1x448_1 (samples : FVec F S448 .f32)))
        (broadcastInDim S32x448 ![0, 1] bcast_S32x1_S32x448_0_1 (broadcastInDim S32x1 ![0] bcast_S32_S32x1_0 (sitofp .f32 (iotaInDim S32 32 0) : FVec F S32 .f32))))))

/-- The resize weights: the hats, each fine place's divided by their sum. -/
def weights : FVec F S32x448 .f32 :=
  Host.divf hats (broadcastInDim S32x448 ![0, 1] bcast_S1x448_S32x448_0_1 (broadcastInDim S1x448 ![1] bcast_S448_S1x448_1
    (Host.reduceAdd (hats : FVec F S32x448 .f32) (constant S_ .f32 0x00000000#32) reducesTo_S32x448_S448_d0 h_S_)))

/-- The resize matrix: the weights transposed. -/
def resize : FVec F S448x32 .f32 := transpose S448x32 [1, 0] weights transposes_S32x448_S448x32_1_0

/-- The unnormalised Gaussian. -/
def bell : FVec F S33 .f32 :=
  let x : FVec F S33 .f32 := Host.divf (addf (broadcastInDim S33 ![] bcast_S_S33 (constant S_ .f32 0xC1800000#32 : FVec F S_ .f32)) (sitofp .f32 (iotaInDim S33 32 0)))
    (broadcastInDim S33 ![] bcast_S_S33 (constant S_ .f32 0x40800000#32 : FVec F S_ .f32))
  Host.exp (mulf (broadcastInDim S33 ![] bcast_S_S33 (constant S_ .f32 0xBF000000#32 : FVec F S_ .f32)) (mulf x x))

/-- The Gaussian weights: the Gaussian divided by its sum. -/
def gauss : FVec F S33 .f32 :=
  Host.divf bell (broadcastInDim S33 ![] bcast_S_S33
    (Host.reduceAdd (bell : FVec F S33 .f32) (constant S_ .f32 0x00000000#32) reducesTo_S33_S_d0 h_S_))

/-- The rows padded by reflection, in front. -/
def padFront (y : FVec F S448x32 .f32) : FVec F S464x32 .f32 :=
  concatenate S464x32 0 [⟨S16x32, Host.reverse [0] (extractStridedSlice S16x32 ![1, 0] y slices_S448x32_S16x32_1_0)⟩, ⟨S448x32, y⟩]
    concatenates_S16x32_S448x32_S464x32_d0

/-- The rows padded by reflection, at both ends. -/
def padRows (y : FVec F S448x32 .f32) : FVec F S480x32 .f32 :=
  concatenate S480x32 0 [⟨S464x32, padFront y⟩,
    ⟨S16x32, Host.reverse [0] (extractStridedSlice S16x32 ![447, 0] (padFront y) slices_S464x32_S16x32_447_0)⟩]
    concatenates_S464x32_S16x32_S480x32_d0

set_option maxHeartbeats 4000000 in
/-- The resize matrix found after the first stretch. -/
theorem resize_read (V : Valuation τ sig (Elt F)) :
    StableHlo.after hostOps1 V (Proc.devRef .tc main_v23) = (resize : FVec F S448x32 .f32) := by
  after_reads_simp <;> rfl

set_option maxHeartbeats 4000000 in
/-- The Gaussian weights found after the first stretch. -/
theorem gauss_read (V : Valuation τ sig (Elt F)) :
    StableHlo.after hostOps1 V (Proc.devRef .tc main_v35) = (gauss : FVec F S33 .f32) := by
  after_reads_simp <;> rfl

set_option maxHeartbeats 4000000 in
/-- The padded matrix found after the second stretch. -/
theorem pad_read (V : Valuation τ sig (Elt F)) :
    StableHlo.after hostOps1_1 V (Proc.devRef .tc main_v36) = padRows (V (Proc.devRef .tc main_v23) : FVec F S448x32 .f32) := by
  simp only [hostOps1_1, StableHlo.TRef.binary, StableHlo.TRef.unary, StableHlo.TRef.toBuf, StableHlo.TRef.ofBuf, cast_eq]
  after_results_simp <;> rfl

end Cert.KernelIdeal.Host
-- ==== Proof.KernelResults.lean ====
/-
  What the kernel's program leaves in its two results, from the distances of its first call.
-/
module

public import proofs.«01_k».proof.Proof.KernelIdealRun
public import proofs.«01_k».proof.Proof.PostArrays
public import proofs.«01_k».proof.Proof.HostArrays

@[expose] public section

set_option maxRecDepth 16384

noncomputable section

open Idealize.ShloMosaic Idealize.ShloMosaic.TcCoe Idealize.SL.Sem

namespace Cert.KernelIdeal.Results

open Cert.KernelIdeal Cert.KernelIdeal.Gen Cert.KernelIdeal.Whole Cert.KernelIdeal.Post Cert.KernelIdeal.Host

variable {F : FTy → Type} [FloatOps F]
variable (m : (ℓ : Loc nD τ sig) → Buf (Elt F) ℓ) (ρ : Dev nD → PrngReg) (c : Dev nD)

/-- The distances that the first call leaves. -/
def dists : FVec F S1024 .f32 := (dat0 (V0 m ρ) c).arrAt 2 cfg0.N

/-- The distances as a grid of 32 rows. -/
def gridOf : FVec F S32x32 .f32 := shapeCast S32x32 (dists m ρ c) shapeCasts_S1024_S32x32

/-- The grid that the second call finds. -/
theorem grid_found : V4 m ρ c main_v236 = gridOf m ρ c := by
  refine (grid (W3 m ρ c)).trans ?_
  have h : W3 m ρ c (Proc.devRef .tc main_v0) = dists m ρ c :=
    (W3_of m ρ c main_v0 (by decide)).trans ((W2_of m ρ c main_v0 (by decide)).trans (W1_arr m ρ c 2))
  exact congrArg (fun x : FVec F S1024 .f32 => shapeCast S32x32 x shapeCasts_S1024_S32x32) h

/-- The matrix that the second call finds. -/
theorem matrix_found : V4 m ρ c main_v235 = (taps gauss (padRows resize) : FVec F S448x32 .f32) := by
  refine (blurred (W3 m ρ c)).trans ?_
  have hk : W3 m ρ c (Proc.devRef .tc main_v35) = (gauss : FVec F S33 .f32) :=
    (W3_of m ρ c main_v35 (by decide)).trans (gauss_read (W1 m ρ c))
  have hp : W3 m ρ c (Proc.devRef .tc main_v36) = (padRows resize : FVec F S480x32 .f32) :=
    (pad_read (W2 m ρ c)).trans (congrArg padRows (resize_read (W1 m ρ c)))
  exact congrArg₂ taps hk hp

/-- The second result ends as the grid between two blurred resize matrices. -/
theorem map_left : W6 m ρ c (Proc.devRef .tc main_v237_1) = mapOf (gridOf m ρ c) (taps gauss (padRows resize)) := by
  refine (W6_of m ρ c main_v237_1 (by decide)).trans ((W5_arr m ρ c 3).trans ((final3 (V4 m ρ) c).trans ?_))
  exact congrArg₂ mapOf (grid_found m ρ c) (matrix_found m ρ c)

/-- The first result ends as the score of the grid. -/
theorem score_left : W6 m ρ c (Proc.devRef .tc main_v238) = shapeCast S_ (scoreOf (gridOf m ρ c)) shapeCasts_S1x1_S_ := by
  have h : W5 m ρ c (Proc.devRef .tc main_v237_0) = scoreOf (gridOf m ρ c) :=
    (W5_arr m ρ c 2).trans ((final2 (V4 m ρ) c).trans (congrArg scoreOf (grid_found m ρ c)))
  have r : W6 m ρ c (Proc.devRef .tc main_v238)
      = shapeCast S_ (W5 m ρ c (Proc.devRef .tc main_v237_0) : FVec F S1x1 .f32) shapeCasts_S1x1_S_ := by
    show StableHlo.after hostOps2 (W5 m ρ c) (Proc.devRef .tc main_v238) = _
    after_results_simp <;> rfl
  exact r.trans (congrArg (fun x : FVec F S1x1 .f32 => shapeCast S_ x shapeCasts_S1x1_S_) h)

/-- The program ends with its two results as above and its arguments as found. -/
theorem run_results : θ_run defs (onTc (τ := τ) (main (F := F))) ⟨m, fun _ => 0, ρ⟩ (fun r => ∀ c : Dev nD,
      r.2.mem ((c.tc : Thread nD τ).loc main_v238) = (shapeCast S_ (scoreOf (gridOf m ρ c)) shapeCasts_S1x1_S_ : FVec F S_ .f32)
      ∧ r.2.mem ((c.tc : Thread nD τ).loc main_v237_1) = mapOf (gridOf m ρ c) (taps gauss (padRows resize))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c _ (mem_uc main_v238 (by decide))).trans (score_left m ρ c),
     (h.1 c _ (mem_uc main_v237_1 (by decide))).trans (map_left m ρ c),
     (h.1 c _ (mem_uc main_arg0 (by decide))).trans (W6_main_arg0 m ρ c),
     (h.1 c _ (mem_uc main_arg1 (by decide))).trans (W6_main_arg1 m ρ c)⟩) (run_all m ρ)

end Cert.KernelIdeal.Results
-- ==== Proof.NnPieces.lean ====
/-
  What one grid point of the nearest-neighbour call leaves behind, as the kernel's own payload terms: the first point
  stores the queries, resets the running maximum and folds the first block in; a middle point folds its block in; the last
  point folds its block in and writes the result.
-/
module

public import proofs.«01_k».proof.Proof.KernelIdealCall0
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Nn

open Cert.KernelIdeal Cert.KernelIdeal.Gen Cert.KernelIdeal.Whole

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

section
variable (c : Dev nD) (i : grid0.Coords) (a1 : Memref sig .tc .vmem S1024x1024 .f32) (h1 : a1.IsWhole)
  (a2 : Memref sig .tc .vmem S2048x1024 .f32) (h2 : a2.IsWhole) (a3 : Memref sig .tc .vmem S1024 .f32) (h3 : a3.IsWhole)
  (a4 : Memref sig .tc .vmem S1024x1024 .bf16) (h4 : a4.IsWhole) (a5 : Memref sig .tc .vmem S1024 .f32) (h5 : a5.IsWhole)

/-- The first point leaves the queries, cast, in the first scratch. -/
theorem sout_A_0 (hc0 : cond0_0 i) (hc1 : ¬cond0_1 i) (x0 : Vec F S1024x1024 .f32) (x1 : Vec F S2048x1024 .f32) :
    sout0_A_0 c i a1 h1 a2 h2 a3 h3 a4 h4 a5 h5 hc0 hc1 x0 x1 = k0_pay1 x0 := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_unit_zero hz2]
  simp only [View.readAt_eq_ld, h1.read_unread, View.ld_unit_zero (S := S1024x1024) hz2]

/-- The first point leaves the maximum over its block, folded into the reset value, in the second scratch. -/
theorem sout_A_1 (hc0 : cond0_0 i) (hc1 : ¬cond0_1 i) (x0 : Vec F S1024x1024 .f32) (x1 : Vec F S2048x1024 .f32) :
    sout0_A_1 c i a1 h1 a2 h2 a3 h3 a4 h4 a5 h5 hc0 hc1 x0 x1 = k0_pay3 x1 (k0_pay1 x0) k0_pay2 := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S1024) hz1]
  simp only [View.readCov_unit_zero (S := S1024) _ hz1, View.readCov_unit_zero (S := S1024x1024) _ hz2,
    View.readAt_eq_ld, h1.read_unread, h2.read_unread,
    View.ld_unit_zero (S := S1024x1024) hz2, View.ld_unit_zero (S := S2048x1024) hz2]

/-- A middle point folds its block into the running maximum. -/
theorem sout_B_1 (hc0 : ¬cond0_0 i) (hc1 : ¬cond0_1 i) (x0 : Vec F S1024x1024 .f32) (x1 : Vec F S2048x1024 .f32)
    (s0 : Vec F S1024x1024 .bf16) (s1 : Vec F S1024 .f32) :
    sout0_B_1 c i a1 h1 a2 h2 a3 h3 a4 h4 a5 h5 hc0 hc1 x0 x1 s0 s1 = k0_pay3 x1 s0 s1 := by
  unfold sout0_B_1
  rw [View.read_writes_eq_canon _ _ _ (scover0_B_1 c i a1 h1 a2 h2 a3 h3 a4 h4 a5 h5 hc0 hc1 x0 x1 s0 s1)]
  unfold kernelRun0_B
  dsimp only
  sl_unfold_words
  rw [View.canon_unit_zero hz1]
  simp only [View.readAt_eq_ld, h2.read_unread, h4.read_unread, h5.read_unread, View.ld_unit_zero (S := S1024) hz1,
    View.ld_unit_zero (S := S1024x1024) hz2, View.ld_unit_zero (S := S2048x1024) hz2]

/-- The last point writes the result of the queries and the running maximum with its own block folded in. -/
theorem out_C_2 (hc0 : ¬cond0_0 i) (hc1 : cond0_1 i) (x0 : Vec F S1024x1024 .f32) (x1 : Vec F S2048x1024 .f32)
    (s0 : Vec F S1024x1024 .bf16) (s1 : Vec F S1024 .f32) :
    out0_C_2 c i a1 h1 a2 h2 a3 h3 a4 h4 a5 h5 hc0 hc1 x0 x1 s0 s1 = k0_pay4 x0 (k0_pay3 x1 s0 s1) := by
  unfold out0_C_2
  rw [View.read_writes_eq_canon _ _ _ (cover0_C_2 c i a1 h1 a2 h2 a3 h3 a4 h4 a5 h5 hc0 hc1 x0 x1 s0 s1)]
  unfold kernelRun0_C
  dsimp only
  sl_unfold_words
  rw [View.canon_unit_zero hz1]
  simp only [View.readCov_unit_zero (S := S1024) _ hz1,
    View.readAt_eq_ld, h1.read_unread, h2.read_unread, h4.read_unread, h5.read_unread, View.ld_unit_zero (S := S1024) hz1,
    View.ld_unit_zero (S := S1024x1024) hz2, View.ld_unit_zero (S := S2048x1024) hz2]

end

end Cert.KernelIdeal.Nn

end
-- ==== Proof.NnPayload.lean ====
/-
  The nearest-neighbour call's payloads at the ideal values, read at an index.
-/
module

public import proofs.«01_k».proof.Proof.ERealFacts
public import proofs.«01_k».proof.Proof.Gen.KernelIdeal.Skeleton
public import Idealize.ShloMosaic.Lib.Pointwise
public import Idealize.ShloMosaic.Lib.MatmulPlain

@[expose] public section

set_option maxRecDepth 16384

noncomputable section

open Idealize.ShloMosaic hiding ix2
open Idealize.ShloMosaic.ValueIdx
open scoped BigOperators

namespace Cert.KernelIdeal.Nn

open Cert.KernelIdeal Cert.KernelIdeal.Gen Cert.ERealFacts

/-- Row `r` of a matrix. -/
abbrev rowOf {a b : Nat} (x : (⟨2, ![a, b]⟩ : Shape).Idx → EReal) (r : Fin a) : Fin b → EReal := fun k => x (ix2 r k)

/-- The pattern of −∞. -/
theorem ofBits_neg_inf : Ideal.ofBits .f32 0xFF800000#32 = ⊥ := by simp [Ideal.ofBits, Ideal.ieee]

/-- The stored queries are the queries. -/
theorem pay1_apply (x : FVec Ideal S1024x1024 .f32) : k0_pay1 (F := Ideal) x = x := by
  unfold k0_pay1
  dsimp only
  rw [shapeCast_self]
  rfl

/-- The running maximum starts at −∞. -/
theorem pay2_apply (j : S1024.Idx) : k0_pay2 (F := Ideal) j = ⊥ := by
  unfold k0_pay2
  rw [shapeCast_self]
  exact ofBits_neg_inf

/-- The squares' product with ones is a row's sum of squares. -/
theorem ones_matmul (x : FVec Ideal S2048x1024 .bf16) (r : Fin 2048) (e : Fin 8) :
    matmul dot_S2048x1024_S8x1024_S2048x8_1_1_0_0_n_n none (mulf x x) (broadcast S8x1024 (Scalar.ofBits .bf16 0x3F80#16))
      (constant (F := Ideal) S2048x8 .f32 0x00000000#32) (ix2 r e) = ∑ k, rowOf x r k * rowOf x r k := by
  refine (Ideal.matmul_transposedRhs_apply (M := 2048) (K := 1024) (N := 8) none _ _ _ r e).trans ?_
  rw [constant_apply, Ideal.ofBits_zero_f32, zero_add]
  refine Finset.sum_congr rfl fun k _ => ?_
  rw [mulf_apply]
  show x (ix2 r k) * x (ix2 r k) * Ideal.ofBits .bf16 0x3F80#16 = _
  rw [Ideal.ofBits_one_bf16, mul_one]

/-- A block's similarities: row `r` of the block, normalised, with query `i`. -/
theorem sims_apply (x : FVec Ideal S2048x1024 .bf16) (q : FVec Ideal S1024x1024 .bf16) (w : FVec Ideal S2048x1 .bf16)
    (r : Fin 2048) (i : Fin 1024) (hw : w (ix2 r 0) = rnorm (rowOf x r)) :
    matmul dot_S2048x1024_S1024x1024_S2048x1024_1_1_0_0_n_n none
      (mulf x (broadcastTo S2048x1024 w broadcasts_S2048x1_S2048x1024)) q
      (constant (F := Ideal) S2048x1024 .f32 0x00000000#32) (ix2 r i) = sim (rowOf q i) (rowOf x r) := by
  refine (Ideal.matmul_transposedRhs_apply (M := 2048) (K := 1024) (N := 1024) none _ _ _ r i).trans ?_
  rw [constant_apply, Ideal.ofBits_zero_f32, zero_add]
  unfold sim
  refine Finset.sum_congr rfl fun k _ => ?_
  rw [mulf_apply]
  have hb : broadcastTo S2048x1024 w broadcasts_S2048x1_S2048x1024 (ix2 r k) = w (ix2 r 0) := by
    pointwise
    exact congrArg w (by funext d; match d with | ⟨0, _⟩ => rfl | ⟨1, _⟩ => rfl)
  rw [hb, hw]

/-- A block folded into the running maximum. -/
theorem pay3_apply (x : FVec Ideal S2048x1024 .f32) (q : FVec Ideal S1024x1024 .bf16) (a : FVec Ideal S1024 .f32)
    (j : S1024.Idx) :
    k0_pay3 (F := Ideal) x q a j = max (a j) (⨆ r : Fin 2048, sim (rowOf q (j 0)) (rowOf x r)) := by
  unfold k0_pay3
  rw [shapeCast_self]
  refine congrArg (max (a j)) ((Ideal.multiReduction_maximumf_single _ _ _ _ _ j).trans ?_)
  show Finset.fold max (Ideal.ofBits .f32 0xFF800000#32) _ _ = _
  rw [ofBits_neg_inf, fold_max]
  refine iSup_congr fun r => ?_
  have hl : reduces_S2048x1024_S1024.lift j r = ix2 r (j 0) := by
    funext d; apply Fin.ext
    match d with
    | ⟨0, _⟩ => rfl
    | ⟨1, _⟩ => rfl
  rw [Function.comp_apply, hl]
  refine sims_apply (truncf .bf16 x bitsLt_bf16_f32) q _ r (j 0) ?_
  have hs : ∀ y : FVec Ideal S2048x8 .f32, extractStridedSlice S2048x1 ![0, 0] y slices_S2048x8_o0_0_S2048x1 (ix2 r 0) = y (ix2 r 0) := by
    intro y; pointwise
    exact congrArg y (by funext d; match d with | ⟨0, _⟩ => rfl | ⟨1, _⟩ => rfl)
  refine (congrArg (fun s => Ideal.div (Ideal.ofBits .f32 0x3F800000#32) (Ideal.sqrt s + Ideal.ofBits .f32 0x322BCC77#32))
    ((hs _).trans (ones_matmul (truncf .bf16 x bitsLt_bf16_f32) r 0))).trans ?_
  rw [Ideal.ofBits_one_f32]
  rfl

/-- The result written from the queries and the running maximum. -/
theorem pay4_apply (x : FVec Ideal S1024x1024 .f32) (a : FVec Ideal S1024 .f32) (j : S1024.Idx) :
    k0_pay4 (F := Ideal) x a j = 1 - rnorm (rowOf x (j 0)) * a j := by
  have hl : ∀ k : Fin 1024, reduces_S1024x1024_S1024.lift j k = ix2 (j 0) k := by
    intro k
    funext d; apply Fin.ext
    match d with
    | ⟨0, _⟩ => rfl
    | ⟨1, _⟩ => rfl
  have hsum : multiReduction .add [1] S1024 (mulf x x) 0x00000000#32 reduces_S1024x1024_S1024 (.inl rfl) rfl j
      = ∑ k : Fin 1024, rowOf x (j 0) k * rowOf x (j 0) k :=
    (Ideal.multiReduction_add_single _ _ _ _ _ j).trans (Finset.sum_congr rfl fun k _ => congrArg (mulf x x) (hl k))
  unfold k0_pay4
  refine (congrArg (fun s => Ideal.ofBits .f32 0x3F800000#32 - Ideal.div (Ideal.ofBits .f32 0x3F800000#32)
    (Ideal.sqrt s + Ideal.ofBits .f32 0x322BCC77#32) * a j) hsum).trans ?_
  rw [Ideal.ofBits_one_f32]
  rfl

end Cert.KernelIdeal.Nn

end
-- ==== Proof.NnFold.lean ====
/-
  The nearest-neighbour call over its grid: after point `n` the running maximum is the supremum over the memory rows of the
  first `n + 1` blocks, and the result array is the distance to the nearest memory row.
-/
module

public import proofs.«01_k».proof.Proof.NnPieces
public import proofs.«01_k».proof.Proof.NnPayload

@[expose] public section

set_option maxRecDepth 16384

noncomputable section

open Idealize.ShloMosaic hiding ix2
open Idealize.ShloMosaic.TcCoe Idealize.SL.Sem Idealize.ShloMosaic.ValueIdx
open scoped BigOperators

namespace Cert.KernelIdeal.Nn

open Cert.KernelIdeal Cert.KernelIdeal.Gen Cert.KernelIdeal.Whole Cert.ERealFacts

/-- The supremum over the first `n` blocks of 2048, joined with the supremum over the next block. -/
theorem sup_step (s : Fin 65536 → EReal) (n : ℕ) (hn : n < 32) :
    max (⨆ p : Fin 65536, ⨆ (_ : p.val < 2048 * n), s p)
        (⨆ r : Fin 2048, s ⟨2048 * n + r.val, by have := r.isLt; omega⟩)
      = ⨆ p : Fin 65536, ⨆ (_ : p.val < 2048 * (n + 1)), s p := by
  apply le_antisymm
  · refine max_le (iSup_le fun p => iSup_le fun hp => ?_) (iSup_le fun r => ?_)
    · exact le_iSup_of_le p (le_iSup_of_le (by omega) le_rfl)
    · exact le_iSup_of_le ⟨2048 * n + r.val, by have := r.isLt; omega⟩
        (le_iSup_of_le (by have := r.isLt; show 2048 * n + r.val < _; omega) le_rfl)
  · refine iSup_le fun p => iSup_le fun hp => ?_
    by_cases h : p.val < 2048 * n
    · exact le_max_of_le_left (le_iSup_of_le p (le_iSup_of_le h le_rfl))
    · refine le_max_of_le_right (le_iSup_of_le ⟨p.val - 2048 * n, by omega⟩ (le_of_eq (congrArg s (Fin.ext ?_))))
      show p.val = 2048 * n + (p.val - 2048 * n)
      omega

/-- Over no rows at all the supremum is −∞. -/
theorem sup_none (s : Fin 65536 → EReal) : (⨆ p : Fin 65536, ⨆ (_ : p.val < 2048 * 0), s p) = ⊥ := by
  simp

/-- Over all 32 blocks it is the supremum over all the rows. -/
theorem sup_all (s : Fin 65536 → EReal) : (⨆ p : Fin 65536, ⨆ (_ : p.val < 2048 * 32), s p) = ⨆ p, s p :=
  iSup_congr fun p => iSup_pos (by have := p.isLt; omega)

/-! ## The blocks -/

/-- The queries' window stays at the origin, and the memory's window is at row `2048 t`. -/
theorem index_facts : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

section
variable {F : FTy → Type} [FloatOps F]
variable (V : (c : Dev nD) → (b : Ref sig .tc) → Buf (Elt F) ((c : Thread nD τ).loc b)) (c : Dev nD)

/-- The queries' block is the whole array of queries. -/
theorem queries_block (t : Fin cfg0.N) (a : Fin 1024) (b : Fin 1024) :
    (iblk0 V c 0 t : Vec F S1024x1024 .f32) (ix2 a b) = V c main_arg0 (ix2 a b) := by
  have hi := index_facts t
  unfold iblk0
  rw [View.read_apply]
  show V c main_arg0 _ = V c main_arg0 _
  congr 1
  funext d
  apply Fin.ext
  match d with
  | ⟨0, _⟩ => show win0_0.index t 0 * 1024 + 1 * a.val = a.val; rw [hi.1]; omega
  | ⟨1, _⟩ => show win0_0.index t 1 * 1024 + 1 * b.val = b.val; rw [hi.2.1]; omega

/-- The memory's block at point `t` is the rows from `2048 t` on. -/
theorem memory_block (t : Fin cfg0.N) (r : Fin 2048) (k : Fin 1024) (p : Fin 65536) (hp : p.val = 2048 * t.val + r.val) :
    (iblk0 V c 1 t : Vec F S2048x1024 .f32) (ix2 r k) = V c main_arg1 (ix2 p k) := by
  have hi := index_facts t
  unfold iblk0
  rw [View.read_apply]
  show V c main_arg1 _ = V c main_arg1 _
  congr 1
  funext d
  apply Fin.ext
  match d with
  | ⟨0, _⟩ => show win0_1.index t 0 * 2048 + 1 * r.val = p.val; rw [hi.2.2.1]; omega
  | ⟨1, _⟩ => show win0_1.index t 1 * 1024 + 1 * k.val = k.val; rw [hi.2.2.2]; omega

end

/-! ## The fold -/

section
variable (V : (c : Dev nD) → (b : Ref sig .tc) → Buf (Elt Ideal) ((c : Thread nD τ).loc b)) (c : Dev nD)

/-- The array of queries as extended reals. -/
abbrev qArr : (⟨2, ![1024, 1024]⟩ : Shape).Idx → EReal := V c main_arg0
/-- The memory as extended reals. -/
abbrev mArr : (⟨2, ![65536, 1024]⟩ : Shape).Idx → EReal := V c main_arg1

/-- Query `i` against memory row `p`. -/
abbrev simAt (i : Fin 1024) (p : Fin 65536) : EReal := sim (rowOf (qArr V c) i) (rowOf (mArr V c) p)

/-- A block's supremum, for stored queries that are the queries. -/
theorem block_sup (t : Fin cfg0.N) (ht : t.val < 32) (q : FVec Ideal S1024x1024 .bf16)
    (hq : ∀ a b, q (ix2 a b) = qArr V c (ix2 a b)) (i : Fin 1024) :
    (⨆ r : Fin 2048, sim (rowOf q i) (rowOf (iblk0 V c 1 t : FVec Ideal S2048x1024 .f32) r))
      = ⨆ r : Fin 2048, simAt V c i ⟨2048 * t.val + r.val, by have := r.isLt; omega⟩ := by
  refine iSup_congr fun r => ?_
  have h1 : rowOf q i = rowOf (qArr V c) i := funext fun k => hq i k
  have h2 : rowOf (iblk0 V c 1 t : FVec Ideal S2048x1024 .f32) r
      = rowOf (mArr V c) ⟨2048 * t.val + r.val, by have := r.isLt; omega⟩ :=
    funext fun k => memory_block V c t r k _ rfl
  rw [h1, h2]

/-- What is carried after point `n`: the queries, and the supremum over the rows of the blocks so far. -/
theorem carried (n : ℕ) (hn : n < cfg0.N) (hl : n < 31) :
    (∀ a b, (outsAt0 V c n hn).2.1 (ix2 a b) = qArr V c (ix2 a b))
      ∧ ∀ j : S1024.Idx, (outsAt0 V c n hn).2.2 j = ⨆ p : Fin 65536, ⨆ (_ : p.val < 2048 * (n + 1)), simAt V c (j 0) p := by
  induction n with
  | zero =>
    rw [outsAt0_A V c ⟨0, hn⟩ rfl (by dsimp only; omega)]
    dsimp only
    rw [sout_A_0, sout_A_1, pay1_apply]
    refine ⟨fun a b => queries_block V c ⟨0, hn⟩ a b, fun j => ?_⟩
    rw [pay3_apply, pay2_apply]
    refine (congrArg (max ⊥) (block_sup V c ⟨0, hn⟩ (by dsimp only; omega) _ (queries_block V c ⟨0, hn⟩) (j 0))).trans ?_
    refine Eq.trans ?_ (sup_step (simAt V c (j 0)) 0 (by omega))
    rw [sup_none]
  | succ n ih =>
    obtain ⟨h1, h2⟩ := ih (Nat.lt_of_succ_lt hn) (by omega)
    rw [outsAt0_B V c ⟨n + 1, hn⟩ (by dsimp only; omega) (by dsimp only; omega)]
    dsimp only
    rw [sout_B_1]
    refine ⟨h1, fun j => ?_⟩
    rw [pay3_apply]
    refine (congrArg₂ max (h2 j) (block_sup V c ⟨n + 1, hn⟩ (by dsimp only; omega) _ h1 (j 0))).trans ?_
    exact sup_step (simAt V c (j 0)) (n + 1) (by omega)

/-- What the last point writes is the distance to the nearest memory row. -/
theorem last_out (hn : 31 < cfg0.N) (j : S1024.Idx) :
    (outsAt0 V c 31 hn).1 j = nnDist (rowOf (qArr V c) (j 0)) (rowOf (mArr V c)) := by
  obtain ⟨h1, h2⟩ := carried V c 30 (by omega) (by omega)
  rw [outsAt0_C V c ⟨31, hn⟩ (by dsimp only; omega) rfl]
  dsimp only
  rw [out_C_2, pay4_apply, pay3_apply]
  have hq : rowOf (iblk0 V c 0 ⟨31, hn⟩ : FVec Ideal S1024x1024 .f32) (j 0) = rowOf (qArr V c) (j 0) :=
    funext fun k => queries_block V c ⟨31, hn⟩ (j 0) k
  have hm : max ((outsAt0 V c 30 (by omega)).2.2 j)
      (⨆ r : Fin 2048, sim (rowOf (outsAt0 V c 30 (by omega)).2.1 (j 0)) (rowOf (iblk0 V c 1 ⟨31, hn⟩ : FVec Ideal S2048x1024 .f32) r))
      = ⨆ p, simAt V c (j 0) p :=
    (congrArg₂ max (h2 j) (block_sup V c ⟨31, hn⟩ (by dsimp only; omega) _ h1 (j 0))).trans
      ((sup_step (simAt V c (j 0)) 31 (by omega)).trans (sup_all _))
  rw [hq]
  exact congrArg (fun x => 1 - rnorm (rowOf (qArr V c) (j 0)) * x) hm

/-- The result window's block is its whole array at every point, and only the last point writes it back. -/
theorem result_facts : ∀ t : Fin cfg0.N, win0_2.index t (0 : Fin 1) = 0 ∧ ((cfg0.win 2).flush t = true → t.val = 31) :=
  (by decide +kernel : ∀ t : Fin grid0.N, _)

/-- Some point writes the result back. -/
theorem result_flushed : ∃ t : Fin cfg0.N, (cfg0.win 2).flush t = true :=
  (by decide +kernel : ∃ t : Fin grid0.N, win0_2.flush t = true)

/-- The result array after the call is what the last point writes. -/
theorem result_eq (hN : 31 < cfg0.N) : (dat0 V c).arrAt 2 cfg0.N = (outsAt0 V c 31 hN).1 := by
  refine (dat0 V c).arrAt_eq_of_cover 2 _ (fun t hf => ?_) (fun i => ?_)
  · obtain ⟨hi, ht⟩ := result_facts t
    have h31 := ht hf
    show (cfg0.win 2).cut (grid0.coords t) ((dat0 V c).after 2 t) = _
    rw [after0_2]
    obtain ⟨n, hn⟩ := t
    obtain rfl : n = 31 := h31
    generalize (outsAt0 V c 31 hn).1 = f
    funext y
    show f _ = f _
    congr 1
    funext a
    apply Fin.ext
    match a with
    | ⟨0, _⟩ => show (y 0).val = win0_2.index _ (0 : Fin 1) * 1024 + 1 * (y 0).val; rw [hi]; omega
  · obtain ⟨t, hf⟩ := result_flushed
    obtain ⟨hi, -⟩ := result_facts t
    refine ⟨t, hf, ?_⟩
    show i ∈ ((View.whole main_v0).slice (win0_2.rect t)).set
    rw [View.set_slice_whole, Rect.mem_set_unit]
    intro a
    have h0 : (i 0).val < 1024 := (i 0).isLt
    match a with
    | ⟨0, _⟩ =>
      show win0_2.index t (0 : Fin 1) * 1024 ≤ (i 0).val ∧ (i 0).val < win0_2.index t (0 : Fin 1) * 1024 + 1024
      rw [hi]; omega

/-- The array after the call: every query's distance to the nearest memory row. -/
theorem array_eq (j : S1024.Idx) :
    ((dat0 V c).arrAt 2 cfg0.N : S1024.Idx → EReal) j = nnDist (rowOf (qArr V c) (j 0)) (rowOf (mArr V c)) := by
  have hN : 31 < cfg0.N := lt_of_lt_of_eq (by decide) N_0.symm
  refine (congrFun (result_eq V c hN) j).trans ?_
  exact last_out V c hN j

end

end Cert.KernelIdeal.Nn

end
-- ==== Proof.NnReference.lean ====
/-
  The reference's distances at the ideal values, read at an index.
-/
module

public import proofs.«01_k».proof.Proof.ERealFacts
public import proofs.«01_k».proof.Proof.Gen.ReferenceIdeal.Read
public import Idealize.ShloMosaic.Lib.Pointwise
public import Idealize.ShloMosaic.Lib.KernelVsHost

@[expose] public section

set_option maxRecDepth 16384

noncomputable section

open Idealize.ShloMosaic hiding ix2
open Idealize.ShloMosaic.ValueIdx Idealize.ShloMosaic.StableHlo
open scoped BigOperators

namespace Cert.ReferenceIdeal.Nn

open Cert.ReferenceIdeal Cert.ReferenceIdeal.Gen Cert.ReferenceIdeal.Read Cert.ERealFacts

variable (q : FVec Ideal S1024x1024 .f32) (x : FVec Ideal S65536x1024 .f32)

/-- A normalised query. -/
theorem query_apply (i k : Fin 1024) :
    val_main_v4 (F := Ideal) q (ix2 i k) = Ideal.div (q (ix2 i k)) (den fun k => q (ix2 i k)) := by
  rw [val_main_v4_apply, val_main_v3_apply, val_main_v2_apply, val_main_v0_apply, val_main_call0_v2_apply,
    val_main_call0_v1_apply, val_main_v1_apply, val_main_cst_apply, val_main_call0_cst_apply]
  have h0 : ∀ s : EReal, FloatOps.ofBits (F := Ideal) .f32 0x00000000#32 + s = s := fun s => by
    show Ideal.ofBits .f32 0x00000000#32 + s = s
    rw [Ideal.ofBits_zero_f32, zero_add]
  rw [h0]
  have hs : (∑ k' : Fin 1024, val_main_call0_v0 (F := Ideal) q (idx_main_call0_v1 (idx_main_call0_v2 (idx_main_v3 (ix2 i k))) k'))
      = ∑ k' : Fin 1024, q (ix2 i k') * q (ix2 i k') :=
    Finset.sum_congr rfl fun k' _ => by
      rw [val_main_call0_v0_apply]
      have e : idx_main_call0_v1 (idx_main_call0_v2 (idx_main_v3 (ix2 i k))) k' = ix2 i k' := by
        funext d; match d with | ⟨0, _⟩ => rfl | ⟨1, _⟩ => rfl
      rw [e]; rfl
  rw [hs]; rfl

/-- A normalised memory row. -/
theorem memory_apply (r : Fin 65536) (k : Fin 1024) :
    val_main_v9 (F := Ideal) x (ix2 r k) = Ideal.div (x (ix2 r k)) (den fun k => x (ix2 r k)) := by
  rw [val_main_v9_apply, val_main_v8_apply, val_main_v7_apply, val_main_v5_apply, val_main_call1_v2_apply,
    val_main_call1_v1_apply, val_main_v6_apply, val_main_cst_0_apply, val_main_call1_cst_apply]
  have h0 : ∀ s : EReal, FloatOps.ofBits (F := Ideal) .f32 0x00000000#32 + s = s := fun s => by
    show Ideal.ofBits .f32 0x00000000#32 + s = s
    rw [Ideal.ofBits_zero_f32, zero_add]
  rw [h0]
  have hs : (∑ k' : Fin 1024, val_main_call1_v0 (F := Ideal) x (idx_main_call1_v1 (idx_main_call1_v2 (idx_main_v8 (ix2 r k))) k'))
      = ∑ k' : Fin 1024, x (ix2 r k') * x (ix2 r k') :=
    Finset.sum_congr rfl fun k' _ => by
      rw [val_main_call1_v0_apply]
      have e : idx_main_call1_v1 (idx_main_call1_v2 (idx_main_v8 (ix2 r k))) k' = ix2 r k' := by
        funext d; match d with | ⟨0, _⟩ => rfl | ⟨1, _⟩ => rfl
      rw [e]; rfl
  rw [hs]; rfl

/-- The cosine of query `i` and memory row `r`. -/
theorem cosine_apply (i : Fin 1024) (r : Fin 65536) :
    val_main_v11 (F := Ideal) q x (ix2 i r)
      = ∑ k : Fin 1024, Ideal.div (q (ix2 i k)) (den fun k => q (ix2 i k)) * Ideal.div (x (ix2 r k)) (den fun k => x (ix2 r k)) := by
  rw [val_main_v11_apply]
  refine Finset.sum_congr rfl fun k _ => ?_
  have el : lidx_main_v11 (ix2 i r) k = ix2 i k := by
    funext d; match d with | ⟨0, _⟩ => rfl | ⟨1, _⟩ => rfl
  have er : idx_main_v10 (ridx_main_v11 (ix2 i r) k) = ix2 r k := by
    funext d; match d with | ⟨0, _⟩ => rfl | ⟨1, _⟩ => rfl
  rw [val_main_v10_apply, el, er, query_apply, memory_apply]

/-- The largest cosine of query `i`. -/
theorem largest_apply (j : S1024.Idx) :
    val_main_v12 (F := Ideal) q x j = ⨆ r : Fin 65536, val_main_v11 (F := Ideal) q x (ix2 (j 0) r) := by
  unfold val_main_v12
  generalize val_main_v11 (F := Ideal) q x = y
  have hr : S1024x65536.Reduces [1] S1024 := by decide
  unfold val_main_cst_1
  have hacc : (0xFF800000#32 : BitVec FTy.f32.bits) = FKind.maximumf.neutral .f32 (.inl rfl) := rfl
  have hred := hostReduce_maximumf_eq_multiReduction (F := Ideal) y _ reducesTo_S1024x65536_S1024_d1 h_S_ hr (.inl rfl) hacc
  refine (congrFun hred j).trans ?_
  refine (Ideal.multiReduction_maximumf_single _ _ _ _ _ j).trans ?_
  show Finset.fold max (Ideal.ofBits .f32 0xFF800000#32) _ _ = _
  rw [show Ideal.ofBits .f32 0xFF800000#32 = ⊥ by simp [Ideal.ofBits, Ideal.ieee], fold_max]
  refine iSup_congr fun r => congrArg y ?_
  funext d; apply Fin.ext
  match d with
  | ⟨0, _⟩ => rfl
  | ⟨1, _⟩ => rfl

/-- The reference's distances. -/
theorem dist_apply (j : S1024.Idx) :
    val_main_v14 (F := Ideal) q x j = nnDist (fun k => q (ix2 (j 0) k)) (fun (r : Fin 65536) k => x (ix2 r k)) := by
  rw [val_main_v14_apply, val_main_v13_apply, val_main_cst_2_apply, largest_apply]
  show Ideal.ofBits .f32 0x3F800000#32 - _ = _
  rw [Ideal.ofBits_one_f32, ← nnDist_eq]
  exact congrArg (1 - ·) (iSup_congr fun r => cosine_apply q x (j 0) r)

end Cert.ReferenceIdeal.Nn

end
-- ==== Proof.ScoreReference.lean ====
/-
  The reference's score at the ideal values: the mean of the ten greatest distances.
-/
module

public import proofs.«01_k».proof.Proof.TopTen
public import proofs.«01_k».proof.Proof.Gen.ReferenceIdeal.Read
public import Idealize.ShloMosaic.Lib.KernelVsHost

@[expose] public section

set_option maxRecDepth 16384

noncomputable section

open Idealize.ShloMosaic
open Idealize.ShloMosaic.ValueIdx Idealize.ShloMosaic.StableHlo
open scoped BigOperators

namespace Cert.ReferenceIdeal.Score

open Cert.ReferenceIdeal Cert.ReferenceIdeal.Gen Cert.ReferenceIdeal.Read Cert.TopTen

/-- Entry `k` of a vector. -/
abbrev entry (x : S1024.Idx → EReal) (k : Fin 1024) : EReal := x (Shape.Idx.ofFin k)

/-- The sort's comparison holds when the left entry is the greater. -/
theorem before_iff (a b : EReal) : (FloatOps.cmpfTotal (F := Ideal) (φ := .f32) .gt a b == 1#1) = decide (b < a) := by
  rw [Ideal.cmpfTotal_def]
  by_cases h : b < a
  · have : Ideal.cmp .ogt a b = 1#1 := by simp [Ideal.cmp, h]
    show (Ideal.cmp .ogt a b == 1#1) = _
    rw [this]; simp [h]
  · have : Ideal.cmp .ogt a b = 0#1 := by simp [Ideal.cmp, h]
    show (Ideal.cmp .ogt a b == 1#1) = _
    rw [this]; simp [h]

/-- A sort by "the greater entry first" leaves the entries in descending order. -/
theorem sorted_descending {n : ℕ} (a : Fin n → EReal) (i j : Fin n) (h : i < j) :
    a (sortedFrom (fun k k' => decide (a k' < a k)) j) ≤ a (sortedFrom (fun k k' => decide (a k' < a k)) i) := by
  have := sortedFrom_noInversion (fun k k' => decide (a k' < a k)) (fun k k' => decide (a k' < a k))
    (fun b c hab => by
      rw [decide_eq_true_eq] at hab
      rw [decide_eq_false_iff_not, not_lt]
      exact hab.le)
    (fun b c hab => hab)
    (fun b c d hab hbc => by
      rw [decide_eq_false_iff_not, not_lt] at hab hbc ⊢
      exact hab.trans hbc) i j h
  rwa [decide_eq_false_iff_not, not_lt] at this

/-- The order in which the sort puts the entries of a vector. -/
def order (x : S1024.Idx → EReal) : Fin 1024 → Fin 1024 := sortedFrom fun k k' => decide (entry x k' < entry x k)

/-- Every entry comes once. -/
theorem order_bijective (x : S1024.Idx → EReal) : Function.Bijective (order x) :=
  ⟨sortedFrom_injective _, sortedFrom_surjective _⟩

/-- The entries come in descending order. -/
theorem order_descending (x : S1024.Idx → EReal) (i j : Fin 1024) (h : i < j) : entry x (order x j) ≤ entry x (order x i) :=
  sorted_descending (entry x) i j h

/-- A vector's sort along its one axis, read at an index. -/
theorem sortBy_apply {n : ℕ} {κ β : Type} (cmp : κ → κ → BitVec 1) (rows : (⟨1, ![n]⟩ : Shape).Idx → κ)
    (x : (⟨1, ![n]⟩ : Shape).Idx → β) (i : (⟨1, ![n]⟩ : Shape).Idx) :
    Host.sortBy ⟨1, ![n]⟩ 0 cmp rows x i
      = x (Shape.Idx.ofFin (sortedFrom (fun k k' => cmp (rows (Shape.Idx.ofFin k)) (rows (Shape.Idx.ofFin k')) == 1#1) (i 0))) := by
  have hd : 0 < (⟨1, ![n]⟩ : Shape).rank := Nat.one_pos
  unfold Host.sortBy
  rw [dif_pos hd]
  have ha : ∀ k : Fin n, i.along (⟨0, hd⟩ : Fin (⟨1, ![n]⟩ : Shape).rank) k = Shape.Idx.ofFin k :=
    fun k => Shape.Idx.along_rank1 i k
  refine (congrArg x (ha _)).trans ?_
  refine congrArg (fun b => x (Shape.Idx.ofFin (sortedFrom b (i 0)))) ?_
  funext k k'
  exact congrArg₂ (fun a b => cmp (rows a) (rows b) == 1#1) (ha k) (ha k')

/-- The sort of a vector with any second vector, read at an index. -/
theorem sort_apply {β : Type} (x : S1024.Idx → EReal) (y : S1024.Idx → β) (i : S1024.Idx) :
    (Host.sort2 S1024 0 (fun l r => FloatOps.cmpfTotal (F := Ideal) (φ := .f32) .gt l.1 r.1) x y).1 i
      = entry x (order x (i 0)) := by
  rw [Host.sort2_eq_sortBy]
  refine (sortBy_apply _ _ x i).trans ?_
  unfold order
  refine congrArg (fun b => entry x (sortedFrom b (i 0))) ?_
  funext k k'
  exact before_iff (entry x k) (entry x k')

/-- The ten greatest of a vector are its first ten entries in that order. -/
theorem topK_apply (x : S1024.Idx → EReal) (j : S10.Idx) :
    (Host.topK S10 0 (FloatOps.cmpfTotal (F := Ideal) (φ := .f32) .gt) x sliceFits_S1024_S10).1 j
      = entry x (order x ((j 0).castLE (by decide))) := by
  unfold Host.topK
  dsimp only
  refine (sort_apply x _ _).trans ?_
  refine congrArg (fun k => entry x (order x k)) (Fin.ext ?_)
  show 0 + (j 0).val = (j 0).val
  omega

/-- The sum of the ten greatest. -/
def topSum (x : S1024.Idx → EReal) : EReal := ∑ k : Fin 10, entry x (order x (k.castLE (by decide)))

/-- The score is the sum of the ten greatest distances over ten. -/
theorem score_apply (q : FVec Ideal S1024x1024 .f32) (x : FVec Ideal S65536x1024 .f32) (i : S_.Idx) :
    val_main_v16 (F := Ideal) q x i
      = Ideal.div (topSum (val_main_v14 (F := Ideal) q x)) (Ideal.ofBits .f32 0x41200000#32) := by
  rw [val_main_v16_apply, val_main_v15_apply]
  have h0 : val_main_cst_3 (F := Ideal) (Shape.Idx.first h_S_) = 0 := Ideal.ofBits_zero_f32
  rw [h0, zero_add]
  refine congrArg (fun s => Ideal.div s (Ideal.ofBits .f32 0x41200000#32)) ?_
  unfold topSum val_main_values
  generalize val_main_v14 (F := Ideal) q x = y
  rw [Finset.sum_congr rfl fun j _ => topK_apply y j]
  refine Fintype.sum_bijective (fun j : S10.Idx => j 0) ⟨?_, ?_⟩ _ _ fun j => rfl
  · intro a b hab
    rw [Shape.Idx.eq_ofFin a, Shape.Idx.eq_ofFin b]
    exact congrArg Shape.Idx.ofFin hab
  · intro k
    exact ⟨Shape.Idx.ofFin k, Fin.ext rfl⟩

end Cert.ReferenceIdeal.Score

end
-- ==== Proof.ScoreEqual.lean ====
/-
  The kernel's ten rounds and the reference's ten greatest give one score.
-/
module

public import proofs.«01_k».proof.Proof.ScoreRounds
public import proofs.«01_k».proof.Proof.ScoreReference

@[expose] public section

set_option maxRecDepth 16384

noncomputable section

open Idealize.ShloMosaic hiding ix2
open Idealize.ShloMosaic.ValueIdx
open scoped BigOperators

namespace Cert.ScoreEqual

open Cert.TopTen Cert.KernelIdeal.Score Cert.ReferenceIdeal.Score

/-- The number of a place of the 32 × 32 map. -/
def flat (i : Cert.KernelIdeal.S32x32.Idx) : Fin 1024 :=
  ⟨(i 0).val * 32 + (i 1).val, by
    have h0 : (i 0).val < 32 := (i 0).isLt
    have h1 : (i 1).val < 32 := (i 1).isLt
    omega⟩

/-- Every number below 1024 is the number of one place. -/
theorem flat_bijective : Function.Bijective flat := by
  constructor
  · intro i j h
    refine number_injective (BitVec.eq_of_toNat_eq ?_)
    rw [number_toNat, number_toNat]
    exact congrArg Fin.val h
  · intro k
    have hk := k.isLt
    refine ⟨ix2 ⟨k.val / 32, by omega⟩ ⟨k.val % 32, by omega⟩, Fin.ext ?_⟩
    show k.val / 32 * 32 + k.val % 32 = k.val
    omega

/-- The total of `n` rounds is the sum of their greatest entries. -/
theorem total_eq (y : FVec Ideal Cert.KernelIdeal.S32x32 .f32) (n : ℕ) :
    total (F := Ideal) y n = ∑ k : Fin n, ⨆ i : Cert.KernelIdeal.S32x32.Idx, (rounds (F := Ideal) y k.val i : EReal) := by
  induction n with
  | zero => exact Ideal.ofBits_zero_f32
  | succ n ih =>
    rw [Fin.sum_univ_castSucc]
    refine (congrArg (fun s : EReal => s + greatest (F := Ideal) (rounds y n)) ih).trans ?_
    rw [greatest_eq]
    rfl

/-- Ten rounds on the distances laid out as a 32 × 32 map add up the ten greatest. -/
theorem total_eq_topSum (y : FVec Ideal Cert.KernelIdeal.S32x32 .f32) (x : Cert.ReferenceIdeal.S1024.Idx → EReal)
    (h : ∀ i, (y i : EReal) = entry x (flat i)) : total (F := Ideal) y 10 = topSum x := by
  haveI : Nonempty Cert.KernelIdeal.S32x32.Idx := ⟨ix2 0 0⟩
  rw [total_eq]
  unfold topSum
  refine Finset.sum_congr rfl fun k _ => ?_
  exact round_eq_sorted (entry x) (order x) (order_bijective x) (order_descending x)
    (fun n i => (rounds (F := Ideal) y n i : EReal)) (fun n => next_round (rounds y n)) flat flat_bijective h
    (k.castLE (by decide))

end Cert.ScoreEqual

end
-- ==== Proof.MapAlgebra.lean ====
/-
  The exchange of sums that the anomaly map needs: a separable blur of a resized grid is the grid between two blurred
  resize matrices.
-/
module

public import proofs.«01_k».proof.Proof.ERealFacts

@[expose] public section

noncomputable section

open scoped BigOperators

namespace Cert.MapAlgebra

open Cert.ERealFacts

/-- Any factor goes through a finite sum of terms that are not negative. -/
theorem mul_sum_nonneg {ι : Type} (s : Finset ι) (x : EReal) (f : ι → EReal) (h : ∀ i, 0 ≤ f i) :
    x * ∑ k ∈ s, f k = ∑ k ∈ s, x * f k := by
  classical
  induction s using Finset.induction_on with
  | empty => simp
  | insert i s hi ih =>
    rw [Finset.sum_insert hi, Finset.sum_insert hi, EReal.left_distrib_of_nonneg (h i) (Finset.sum_nonneg fun k _ => h k), ih]

/-- The same with the factor on the right. -/
theorem sum_mul_nonneg {ι : Type} (s : Finset ι) (x : EReal) (f : ι → EReal) (h : ∀ i, 0 ≤ f i) :
    (∑ k ∈ s, f k) * x = ∑ k ∈ s, f k * x := by
  rw [mul_comm, mul_sum_nonneg s x f h]
  exact Finset.sum_congr rfl fun k _ => mul_comm _ _

/-- The product of two numbers that are neither negative nor +∞ is not +∞. -/
theorem mul_ne_top {x y : EReal} (hx : 0 ≤ x) (hxt : x ≠ ⊤) (hy : 0 ≤ y) (hyt : y ≠ ⊤) : x * y ≠ ⊤ := by
  lift x to ℝ using ⟨hxt, fun h => absurd (h ▸ hx) (by simp)⟩
  lift y to ℝ using ⟨hyt, fun h => absurd (h ▸ hy) (by simp)⟩
  rw [← EReal.coe_mul]
  exact EReal.coe_ne_top _

/-- The grid `g` between two matrices, each a `k`-weighted sum of the matrices `A s` and `B t`, is the `k`-weighted double sum
    of the grid between `A s` and `B t`. Nothing is asked of `g`. -/
theorem separable {ι κ : Type} [Fintype ι] [Fintype κ] (k : κ → EReal) (A B : κ → ι → EReal) (g : ι → ι → EReal)
    (hk : ∀ s, 0 ≤ k s ∧ k s ≠ ⊤) (hA : ∀ s a, 0 ≤ A s a ∧ A s a ≠ ⊤) (hB : ∀ t b, 0 ≤ B t b ∧ B t b ≠ ⊤) :
    ∑ b, (∑ a, (∑ s, k s * A s a) * g a b) * (∑ t, k t * B t b)
      = ∑ s, (∑ t, (∑ a, (∑ b, g a b * B t b) * A s a) * k t) * k s := by
  have hkA : ∀ s a, 0 ≤ k s * A s a := fun s a => mul_nonneg (hk s).1 (hA s a).1
  have hkB : ∀ t b, 0 ≤ k t * B t b := fun t b => mul_nonneg (hk t).1 (hB t b).1
  have hkBt : ∀ t b, k t * B t b ≠ ⊤ := fun t b => mul_ne_top (hk t).1 (hk t).2 (hB t b).1 (hB t b).2
  have left : ∀ b, (∑ a, (∑ s, k s * A s a) * g a b) * (∑ t, k t * B t b)
      = ∑ t, ∑ a, ∑ s, k s * A s a * g a b * (k t * B t b) := fun b => by
    rw [mul_sum_nonneg _ _ _ (fun t => hkB t b)]
    refine Finset.sum_congr rfl fun t _ => ?_
    rw [sum_mul _ (hkB t b) (hkBt t b)]
    refine Finset.sum_congr rfl fun a _ => ?_
    rw [sum_mul_nonneg _ _ _ (fun s => hkA s a), sum_mul _ (hkB t b) (hkBt t b)]
  have right : ∀ s, (∑ t, (∑ a, (∑ b, g a b * B t b) * A s a) * k t) * k s
      = ∑ t, ∑ a, ∑ b, k s * A s a * g a b * (k t * B t b) := fun s => by
    rw [sum_mul _ (hk s).1 (hk s).2]
    refine Finset.sum_congr rfl fun t _ => ?_
    rw [sum_mul _ (hk t).1 (hk t).2, sum_mul _ (hk s).1 (hk s).2]
    refine Finset.sum_congr rfl fun a _ => ?_
    rw [sum_mul _ (hA s a).1 (hA s a).2, sum_mul _ (hk t).1 (hk t).2, sum_mul _ (hk s).1 (hk s).2]
    refine Finset.sum_congr rfl fun b _ => ?_
    ac_rfl
  rw [Finset.sum_congr rfl fun b _ => left b, Finset.sum_congr rfl fun s _ => right s]
  refine Finset.sum_comm.trans ((Finset.sum_congr rfl fun t _ => ?_).trans Finset.sum_comm)
  refine Finset.sum_comm.trans ((Finset.sum_congr rfl fun a _ => ?_).trans Finset.sum_comm)
  exact Finset.sum_comm

end Cert.MapAlgebra

end
-- ==== Proof.MapReference.lean ====
/-
  The reference's anomaly map at the ideal values, entry by entry: the resized grid, blurred along both axes.
-/
module

public import proofs.«01_k».proof.Proof.Mirror
public import proofs.«01_k».proof.Proof.Gen.ReferenceIdeal.Read
public import Idealize.ShloMosaic.Lib.KernelVsHost

@[expose] public section

set_option maxRecDepth 16384

noncomputable section

open Idealize.ShloMosaic
open Idealize.ShloMosaic.ValueIdx Idealize.ShloMosaic.StableHlo
open scoped BigOperators

namespace Cert.ReferenceIdeal.Map

open Cert.ReferenceIdeal Cert.ReferenceIdeal.Gen Cert.ReferenceIdeal.Read Cert.Mirror

section Pad

variable {F : FTy → Type} [FloatOps F]

/-- The columns padded by reflection, in front. -/
def padFront (y : FVec F S448x448 .f32) : FVec F S448x464 .f32 :=
  concatenate S448x464 1 [⟨S448x16, Host.reverse [1] (extractStridedSlice S448x16 ![0, 1] y slices_S448x448_S448x16_0_1)⟩, ⟨S448x448, y⟩]
    concatenates_S448x16_S448x448_S448x464_d1

/-- The columns padded by reflection, at both ends. -/
def padCols (y : FVec F S448x448 .f32) : FVec F S448x480 .f32 :=
  concatenate S448x480 1 [⟨S448x464, padFront y⟩,
    ⟨S448x16, Host.reverse [1] (extractStridedSlice S448x16 ![0, 447] (padFront y) slices_S448x464_S448x16_0_447)⟩]
    concatenates_S448x464_S448x16_S448x480_d1

/-- The front-padded columns are the columns at the reflected places. -/
theorem padFront_apply (y : FVec F S448x448 .f32) (i : Fin 448) (p : Fin 464) :
    padFront y (ix2 i p) = y (ix2 i (front p)) := by
  by_cases h : p.val < 16
  · refine (concatenate_pair_apply_left (s₁ := S448x16) (s₂ := S448x448) (1 : Fin S448x464.rank) _ _ _ (ix2 i p) rfl
      (ix2 (n1 := 16) i ⟨p.val, h⟩) (fun b => match b with
      | ⟨0, _⟩ => rfl
      | ⟨1, _⟩ => rfl)).trans ?_
    refine extractStridedSlice_apply _ y _ _ (ix2 i (front p)) (fun b => match b with
      | ⟨0, _⟩ => ?_
      | ⟨1, _⟩ => ?_)
    · show i.val = 0 + i.val
      omega
    · show (front p).val = 1 + (16 - (p.val + 1))
      simp only [front, if_pos h]; omega
  · have hp := p.isLt
    refine concatenate_pair_apply_right (s₁ := S448x16) (s₂ := S448x448) (1 : Fin S448x464.rank) _ _ _ (ix2 i p) rfl rfl
      (ix2 i (front p)) (fun b hb => match b, hb with
      | ⟨0, _⟩, _ => rfl
      | ⟨1, _⟩, hb => absurd rfl hb) ?_
    show (front p).val + 16 = p.val
    simp only [front, if_neg h]; omega

/-- The padded columns are the columns at the reflected places. -/
theorem padCols_apply (y : FVec F S448x448 .f32) (i : Fin 448) (p : Fin 480) :
    padCols y (ix2 i p) = y (ix2 i (mirror p)) := by
  by_cases h : p.val < 464
  · rw [mirror_front p h]
    refine (concatenate_pair_apply_left (s₁ := S448x464) (s₂ := S448x16) (1 : Fin S448x480.rank) _ _ _ (ix2 i p) rfl
      (ix2 (n1 := 464) i ⟨p.val, h⟩) (fun b => match b with
      | ⟨0, _⟩ => rfl
      | ⟨1, _⟩ => rfl)).trans ?_
    exact padFront_apply y i _
  · have hp := p.isLt
    rw [mirror_back p h]
    refine (concatenate_pair_apply_right (s₁ := S448x464) (s₂ := S448x16) (1 : Fin S448x480.rank) _ _ _ (ix2 i p) rfl rfl
      (ix2 (n1 := 16) i ⟨p.val - 464, by omega⟩) (fun b hb => match b, hb with
      | ⟨0, _⟩, _ => rfl
      | ⟨1, _⟩, hb => absurd rfl hb) ?_).trans ?_
    · show p.val - 464 + 464 = p.val
      omega
    · refine (extractStridedSlice_apply _ (padFront y) _ _ (ix2 (n1 := 464) i ⟨462 - (p.val - 464), by omega⟩) (fun b => match b with
        | ⟨0, _⟩ => ?_
        | ⟨1, _⟩ => ?_)).trans (padFront_apply y i _)
      · show i.val = 0 + i.val
        omega
      · show 462 - (p.val - 464) = 447 + (16 - (p.val - 464 + 1))
        omega

end Pad

/-- The gather reads, for row `r`, the column that the start index of `(j, t)` names. -/
theorem gather_apply {α : Type} (x : S448x480.Idx → α) (idx : IVec S448x33x1 32) (r j : Fin 448) (t : Fin 33) (n : Fin 480)
    (hn : (idx (ix3 j t (0 : Fin 1))).toInt.toNat = n.val) :
    Host.gather gather_S448x480_S448x33x1_S448x448x33_0_1_n_n_1_2_4481 x idx (ix3 r j t) = x (ix2 r n) := by
  unfold Host.gather
  congr 1
  funext a
  refine Fin.ext ?_
  show (gather_S448x480_S448x33x1_S448x448x33_0_1_n_n_1_2_4481).start (ix3 r j t) idx a
    + (gather_S448x480_S448x33x1_S448x448x33_0_1_n_n_1_2_4481).batchCoord (ix3 r j t) a
    + (gather_S448x480_S448x33x1_S448x448x33_0_1_n_n_1_2_4481).offCoord (ix3 r j t) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    simp only [Nat.zero_add, Nat.add_zero]
    unfold GatherDims.offCoord
    rw [dif_pos (by decide)]
    rfl
  · rw [GatherDims.offCoord_eq_zero _ _ _ (by decide)]
    simp only [Nat.add_zero]
    unfold GatherDims.start
    rw [dif_pos (by decide)]
    have hsi : (gather_S448x480_S448x33x1_S448x448x33_0_1_n_n_1_2_4481).siIdx (ix3 r j t)
        ⟨List.idxOf (1 : Fin 2) (gather_S448x480_S448x33x1_S448x448x33_0_1_n_n_1_2_4481).startIndexMap,
        List.idxOf_lt_length_iff.2 (List.mem_singleton.mpr rfl)⟩ = ix3 j t (0 : Fin 1) := by
      funext b; refine Fin.ext ?_
      match b with
      | ⟨0, _⟩ => rfl
      | ⟨1, _⟩ => rfl
      | ⟨2, _⟩ => rfl
    rw [hsi, hn]
    have := n.isLt
    show min n.val 479 = n.val
    omega

end Cert.ReferenceIdeal.Map
-- ==== Proof.MapWeights.lean ====
/-
  The weights of the resize and of the Gaussian at the ideal values: none is negative and none is +∞.
-/
module

public import proofs.«01_k».proof.Proof.MapReference
public import proofs.«01_k».proof.Proof.ERealFacts

@[expose] public section

set_option maxRecDepth 16384

noncomputable section

open Idealize.ShloMosaic
open Idealize.ShloMosaic.ValueIdx Idealize.ShloMosaic.StableHlo
open scoped BigOperators

namespace Cert.ReferenceIdeal.Map

open Cert.ReferenceIdeal Cert.ReferenceIdeal.Gen Cert.ReferenceIdeal.Read Cert.Mirror

/-- The constant one half. -/
theorem half_bits : Ideal.ofBits .f32 0x3F000000#32 = ((1 / 2 : ℝ) : EReal) := by
  simp [Ideal.ofBits, Ideal.ieee, -EReal.coe_mul]; norm_num
/-- The constant fourteen. -/
theorem fourteen_bits : Ideal.ofBits .f32 0x41600000#32 = ((14 : ℝ) : EReal) := by
  simp [Ideal.ofBits, Ideal.ieee, -EReal.coe_mul]; norm_num
/-- The constant one. -/
theorem one_bits : Ideal.ofBits .f32 0x3F800000#32 = ((1 : ℝ) : EReal) := by
  simp [Ideal.ofBits, Ideal.ieee, -EReal.coe_mul]; try norm_num
/-- The constant minus sixteen. -/
theorem minus_sixteen_bits : Ideal.ofBits .f32 0xC1800000#32 = ((-16 : ℝ) : EReal) := by
  simp [Ideal.ofBits, Ideal.ieee, -EReal.coe_mul]; try norm_num
/-- The constant four. -/
theorem four_bits : Ideal.ofBits .f32 0x40800000#32 = ((4 : ℝ) : EReal) := by
  simp [Ideal.ofBits, Ideal.ieee, -EReal.coe_mul]; try norm_num
/-- The constant minus one half. -/
theorem minus_half_bits : Ideal.ofBits .f32 0xBF000000#32 = ((-1 / 2 : ℝ) : EReal) := by
  simp [Ideal.ofBits, Ideal.ieee, -EReal.coe_mul]; try norm_num

/-- The greater of two real numbers is the same among the extended reals. -/
theorem max_real (a b : ℝ) : ((max a b : ℝ) : EReal) = max (a : EReal) (b : EReal) :=
  EReal.coe_strictMono.monotone.map_max

/-- A number below 2^31 as a 32-bit word, read back signed. -/
theorem word_val (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

/-- The quotient of a number that is neither negative nor +∞ by a positive one is neither negative nor +∞. -/
theorem div_good {x s : EReal} (h0 : 0 ≤ x) (ht : x ≠ ⊤) (hs : 0 < s) : 0 ≤ Ideal.div x s ∧ Ideal.div x s ≠ ⊤ := by
  unfold Ideal.div
  rw [if_neg hs.ne']
  have i0 : 0 ≤ s⁻¹ := EReal.inv_nonneg_of_nonneg hs.le
  have it : s⁻¹ ≠ ⊤ := (EReal.inv_lt_top _).ne
  refine ⟨mul_nonneg h0 i0, ?_⟩
  lift x to ℝ using ⟨ht, fun h => absurd (h ▸ h0) (by simp)⟩
  generalize s⁻¹ = y at i0 it
  lift y to ℝ using ⟨it, fun h => absurd (h ▸ i0) (by simp)⟩
  rw [← EReal.coe_mul]
  exact EReal.coe_ne_top _

/-- The place in the coarse grid that fine place `j` samples. -/
theorem sample_apply (j : Fin 448) :
    (val_main_v24 (F := Ideal) (ix1 j) : EReal) = ((((j.val : ℝ) + 1 / 2) * (1 / 14) - 1 / 2 : ℝ) : EReal) := by
  have h : (val_main_v24 (F := Ideal) (ix1 j) : EReal)
      = Ideal.div ((((BitVec.ofNat 32 j.val).toInt : ℝ) : EReal) + val_main_v19 (F := Ideal) (ix1 j)) (val_main_v21 (F := Ideal) (ix1 j))
        - val_main_v23 (F := Ideal) (ix1 j) := rfl
  have e1 : (val_main_v19 (F := Ideal) (ix1 j) : EReal) = ((1 / 2 : ℝ) : EReal) := (val_main_v19_apply _).trans half_bits
  have e2 : (val_main_v21 (F := Ideal) (ix1 j) : EReal) = ((14 : ℝ) : EReal) := (val_main_v21_apply _).trans fourteen_bits
  have e3 : (val_main_v23 (F := Ideal) (ix1 j) : EReal) = ((1 / 2 : ℝ) : EReal) := (val_main_v23_apply _).trans half_bits
  rw [h, e1, e2, e3, word_val _ (by have := j.isLt; omega), ← EReal.coe_add, Ideal.div_coe (by norm_num), ← EReal.coe_mul, ← EReal.coe_sub]
  simp

/-- The hat function of the distance between coarse place `i` and the place that `j` samples. -/
theorem hat_apply (i : Fin 32) (j : Fin 448) :
    (val_main_v35 (F := Ideal) (ix2 i j) : EReal)
      = ((max 0 (1 - |(((j.val : ℝ) + 1 / 2) * (1 / 14) - 1 / 2) - (i.val : ℝ)|) : ℝ) : EReal) := by
  have e28 : (val_main_v28 (F := Ideal) (ix2 i j) : EReal) = ((((j.val : ℝ) + 1 / 2) * (1 / 14) - 1 / 2 : ℝ) : EReal) :=
    (val_main_v28_apply _).trans ((val_main_v25_apply _).trans
      ((congrArg (val_main_v24 (F := Ideal)) (funext fun a => Fin.ext (by match a with | ⟨0, _⟩ => rfl))).trans (sample_apply j)))
  have e29 : (val_main_v29 (F := Ideal) (ix2 i j) : EReal) = ((i.val : ℝ) : EReal) := by
    refine (val_main_v29_apply _).trans ((val_main_v27_apply _).trans ?_)
    show (((BitVec.ofNat 32 i.val).toInt : ℝ) : EReal) = _
    rw [word_val _ (by have := i.isLt; omega)]; simp
  have e32 : (val_main_v32 (F := Ideal) (ix2 i j) : EReal) = ((1 : ℝ) : EReal) := (val_main_v32_apply _).trans one_bits
  have e34 : (val_main_v34 (F := Ideal) (ix2 i j) : EReal) = ((0 : ℝ) : EReal) :=
    (val_main_v34_apply _).trans Ideal.ofBits_zero_f32
  have h : (val_main_v35 (F := Ideal) (ix2 i j) : EReal)
      = max (val_main_v34 (F := Ideal) (ix2 i j)) ((val_main_v32 (F := Ideal) (ix2 i j) : EReal)
        - FloatOps.hostAbsf (F := Ideal) (φ := .f32) ((val_main_v28 (F := Ideal) (ix2 i j) : EReal) - val_main_v29 (F := Ideal) (ix2 i j))) := rfl
  rw [h, e28, e29, e32, e34, ← EReal.coe_sub]
  have ha : ∀ r : ℝ, FloatOps.hostAbsf (F := Ideal) (φ := .f32) ((r : ℝ) : EReal) = ((|r| : ℝ) : EReal) := fun r => by
    show max ((r : ℝ) : EReal) (-(r : ℝ) : EReal) = _
    rw [← EReal.coe_neg, ← max_real]; rfl
  rw [ha, ← EReal.coe_sub, ← max_real]

/-- Each fine place has a coarse place nearer than one, so its hats do not all vanish. -/
theorem hat_pos (j : Fin 448) : ∃ i : Fin 32, 0 < (val_main_v35 (F := Ideal) (ix2 i j) : EReal) := by
  have hj := j.isLt
  refine ⟨⟨j.val / 14, by omega⟩, ?_⟩
  rw [hat_apply]
  refine EReal.coe_pos.mpr (lt_max_of_lt_right ?_)
  have e : (j.val : ℝ) = 14 * ((j.val / 14 : ℕ) : ℝ) + ((j.val % 14 : ℕ) : ℝ) := by exact_mod_cast (Nat.div_add_mod j.val 14).symm
  have hr : ((j.val % 14 : ℕ) : ℝ) ≤ 13 := by exact_mod_cast (by omega : j.val % 14 ≤ 13)
  have h0 : (0 : ℝ) ≤ ((j.val % 14 : ℕ) : ℝ) := Nat.cast_nonneg _
  have : |((j.val : ℝ) + 1 / 2) * (1 / 14) - 1 / 2 - ((j.val / 14 : ℕ) : ℝ)| < 1 := by
    rw [abs_lt, e]
    constructor <;> linarith
  linarith

/-- The resize weights are not negative and not +∞. -/
theorem weight_good (i : Fin 32) (j : Fin 448) :
    0 ≤ (val_main_v39 (F := Ideal) (ix2 i j) : EReal) ∧ (val_main_v39 (F := Ideal) (ix2 i j) : EReal) ≠ ⊤ := by
  have hn : ∀ a : Fin 32, 0 ≤ (val_main_v35 (F := Ideal) (ix2 a j) : EReal) := fun a => by
    rw [hat_apply]; exact EReal.coe_nonneg.mpr (le_max_left _ _)
  have hs : (val_main_v38 (F := Ideal) (ix2 i j) : EReal) = ∑ a : Fin 32, (val_main_v35 (F := Ideal) (ix2 a j) : EReal) := by
    refine (val_main_v38_apply _).trans ((val_main_v37_apply _).trans ((val_main_v36_apply _).trans ?_))
    have hz : (val_main_cst_10 (F := Ideal) (Shape.Idx.first h_S_) : EReal) = 0 := Ideal.ofBits_zero_f32
    rw [hz, zero_add]
    refine Finset.sum_congr rfl fun a _ => congrArg (val_main_v35 (F := Ideal)) (funext fun b => Fin.ext (by
      match b with
      | ⟨0, _⟩ => rfl
      | ⟨1, _⟩ => rfl))
  have h : (val_main_v39 (F := Ideal) (ix2 i j) : EReal)
      = Ideal.div (val_main_v35 (F := Ideal) (ix2 i j)) (val_main_v38 (F := Ideal) (ix2 i j)) := rfl
  rw [h, hs]
  refine div_good (hn i) (by rw [hat_apply]; exact EReal.coe_ne_top _) ?_
  obtain ⟨a, ha⟩ := hat_pos j
  exact lt_of_lt_of_le ha (Finset.single_le_sum (f := fun a => (val_main_v35 (F := Ideal) (ix2 a j) : EReal)) (fun a _ => hn a) (Finset.mem_univ a))

/-- The Gaussian before it is normalised is the exponential of a real number. -/
theorem bell_apply (t : Fin 33) : ∃ r : ℝ, (val_main_v74 (F := Ideal) (ix1 t) : EReal) = ((Real.exp r : ℝ) : EReal) := by
  have e66 : (val_main_v66 (F := Ideal) (ix1 t) : EReal) = ((t.val : ℝ) : EReal) := by
    show (((BitVec.ofNat 32 t.val).toInt : ℝ) : EReal) = _
    rw [word_val _ (by have := t.isLt; omega)]; simp
  have e67 : (val_main_v67 (F := Ideal) (ix1 t) : EReal) = ((-16 : ℝ) : EReal) := (val_main_v67_apply _).trans minus_sixteen_bits
  have e69 : (val_main_v69 (F := Ideal) (ix1 t) : EReal) = ((4 : ℝ) : EReal) := (val_main_v69_apply _).trans four_bits
  have e72 : (val_main_v72 (F := Ideal) (ix1 t) : EReal) = ((-1 / 2 : ℝ) : EReal) := (val_main_v72_apply _).trans minus_half_bits
  have h : (val_main_v74 (F := Ideal) (ix1 t) : EReal)
      = Ideal.exp ((val_main_v72 (F := Ideal) (ix1 t) : EReal)
        * (Ideal.div ((val_main_v67 (F := Ideal) (ix1 t) : EReal) + val_main_v66 (F := Ideal) (ix1 t)) (val_main_v69 (F := Ideal) (ix1 t))
          * Ideal.div ((val_main_v67 (F := Ideal) (ix1 t) : EReal) + val_main_v66 (F := Ideal) (ix1 t)) (val_main_v69 (F := Ideal) (ix1 t)))) := rfl
  rw [h, e66, e67, e69, e72, ← EReal.coe_add, Ideal.div_coe (by norm_num), ← EReal.coe_mul, ← EReal.coe_mul, ← EReal.coe_mul, Ideal.exp_coe]
  exact ⟨_, rfl⟩

/-- The Gaussian weights are not negative and not +∞. -/
theorem gauss_good (t : Fin 33) :
    0 ≤ (val_main_v77 (F := Ideal) (ix1 t) : EReal) ∧ (val_main_v77 (F := Ideal) (ix1 t) : EReal) ≠ ⊤ := by
  have hp : ∀ j : S33.Idx, 0 < (val_main_v74 (F := Ideal) j : EReal) := fun j => by
    obtain ⟨r, hr⟩ := bell_apply (j 0)
    have e : j = ix1 (j 0) := funext fun b => by match b with | ⟨0, _⟩ => rfl
    rw [e]; exact hr ▸ EReal.coe_pos.mpr (Real.exp_pos r)
  have hs : (val_main_v76 (F := Ideal) (ix1 t) : EReal) = ∑ j : S33.Idx, (val_main_v74 (F := Ideal) j : EReal) := by
    refine (val_main_v76_apply _).trans ((val_main_v75_apply _).trans ?_)
    have hz : (val_main_cst_20 (F := Ideal) (Shape.Idx.first h_S_) : EReal) = 0 := Ideal.ofBits_zero_f32
    rw [hz, zero_add]
  have h : (val_main_v77 (F := Ideal) (ix1 t) : EReal)
      = Ideal.div (val_main_v74 (F := Ideal) (ix1 t)) (val_main_v76 (F := Ideal) (ix1 t)) := rfl
  rw [h, hs]
  refine div_good (hp _).le ?_ (lt_of_lt_of_le (hp (ix1 t))
    (Finset.single_le_sum (f := fun j => (val_main_v74 (F := Ideal) j : EReal)) (fun j _ => (hp j).le) (Finset.mem_univ _)))
  obtain ⟨r, hr⟩ := bell_apply t
  rw [hr]; exact EReal.coe_ne_top _

end Cert.ReferenceIdeal.Map
-- ==== Proof.MapBlur.lean ====
/-
  The reference's anomaly map at the ideal values as a double sum of the resized grid.
-/
module

public import proofs.«01_k».proof.Proof.MapWeights

@[expose] public section

set_option maxRecDepth 16384

noncomputable section

open Idealize.ShloMosaic
open Idealize.ShloMosaic.ValueIdx Idealize.ShloMosaic.StableHlo
open scoped BigOperators

namespace Cert.ReferenceIdeal.Map

open Cert.ReferenceIdeal Cert.ReferenceIdeal.Gen Cert.ReferenceIdeal.Read Cert.Mirror

/-- The place that tap `t` reads at `j`, as a word. -/
theorem place_word (j : Fin 448) (t : Fin 33) :
    (IntOp.addi (BitVec.ofNat 32 j.val) (BitVec.ofNat 32 t.val)) = BitVec.ofNat 32 (tapAt j t).val := by
  show BitVec.ofNat 32 j.val + BitVec.ofNat 32 t.val = _
  rw [← BitVec.ofNat_add]; rfl

/-- The choice between a place and the place shifted by the width, when the place is not negative, is the place. -/
theorem place_select (n : ℕ) (h : n < 2 ^ 31) (b : BitVec 32) :
    (Scalar.select (IntOp.cmpi .slt (BitVec.ofNat 32 n) 0#32) b (BitVec.ofNat 32 n)).toInt.toNat = n := by
  have hc : IntOp.cmpi .slt (BitVec.ofNat 32 n) 0#32 = 0#1 := by
    have : ¬ (BitVec.ofNat 32 n).toInt < 0 := by
      rw [word_val n h]; simp
    simp [IntOp.cmpi, BitVec.slt, decide_eq_false this]
  rw [hc, select_zero, word_val n h]; simp

/-- The place of the first blur's tap. -/
theorem place1 (j : Fin 448) (t : Fin 33) :
    (val_main_v91 (F := Ideal) (ix3 j t (0 : Fin 1))).toInt.toNat = (tapAt j t).val := by
  have e85 : val_main_v85 (F := Ideal) (ix2 j t) = BitVec.ofNat 32 (tapAt j t).val := by
    rw [← place_word]
    refine (val_main_v85_apply _).trans ?_
    exact congrArg₂ IntOp.addi ((val_main_v83_apply _).trans (val_main_v80_apply _)) ((val_main_v84_apply _).trans (val_main_v82_apply _))
  have e86 : val_main_v86 (F := Ideal) (ix2 j t) = 0#32 := (val_main_v86_apply _).trans rfl
  have e91 : val_main_v91 (F := Ideal) (ix3 j t (0 : Fin 1)) = val_main_v90 (F := Ideal) (ix2 j t) :=
    (val_main_v91_apply _).trans (congrArg (val_main_v90 (F := Ideal)) (funext fun a => Fin.ext (by
      match a with
      | ⟨0, _⟩ => rfl
      | ⟨1, _⟩ => rfl)))
  rw [e91, val_main_v90_apply, val_main_v87_apply, e86, e85]
  exact place_select _ (by have := (tapAt j t).isLt; omega) _

/-- The place of the second blur's tap. -/
theorem place2 (j : Fin 448) (t : Fin 33) :
    (val_main_v111 (F := Ideal) (ix3 j t (0 : Fin 1))).toInt.toNat = (tapAt j t).val :=
  (congrArg (fun x : IVec S448x33x1 32 => (x (ix3 j t (0 : Fin 1))).toInt.toNat)
    (show val_main_v111 (F := Ideal) = val_main_v91 (F := Ideal) from rfl)).trans (place1 j t)

/-- One blur along the columns: the Gaussian-weighted sum of the entries at the reflected places. -/
def blurCols (y : Fin 448 → Fin 448 → EReal) (r j : Fin 448) : EReal :=
  ∑ t : Fin 33, y r (mirror (tapAt j t)) * (val_main_v77 (F := Ideal) (ix1 t) : EReal)

variable (q : (⟨S1024x1024, .f32⟩ : BufTy).Contents (Elt Ideal)) (x : (⟨S65536x1024, .f32⟩ : BufTy).Contents (Elt Ideal))

/-- The first blur. -/
theorem blur1 (r j : Fin 448) :
    (val_main_v96 (F := Ideal) q x (ix2 r j) : EReal) = blurCols (fun r' j' => val_main_v65 (F := Ideal) q x (ix2 r' j')) r j := by
  refine (val_main_v96_apply q x _).trans ?_
  have hz : (val_main_cst_23 (F := Ideal) (Shape.Idx.first h_S_) : EReal) = 0 := Ideal.ofBits_zero_f32
  rw [hz, zero_add]
  refine Finset.sum_congr rfl fun t _ => ?_
  have ei : idx_main_v96 (ix2 r j) t = ix3 r j t := funext fun a => Fin.ext (by
    match a with
    | ⟨0, _⟩ => rfl
    | ⟨1, _⟩ => rfl
    | ⟨2, _⟩ => rfl)
  rw [ei]
  refine (val_main_v95_apply q x _).trans ?_
  have e1 : (val_main_v92 (F := Ideal) q x (ix3 r j t) : EReal) = val_main_v65 (F := Ideal) q x (ix2 r (mirror (tapAt j t))) := by
    have h78 : val_main_v78 (F := Ideal) q x = padCols (F := Ideal) (val_main_v65 (F := Ideal) q x) := by
      unfold val_main_v78 val_main_call2_v6 val_main_call2_v5 val_main_call2_v3 val_main_call2_v2 val_main_call2_v1 padCols padFront
      rfl
    unfold val_main_v92
    rw [h78]
    generalize val_main_v65 (F := Ideal) q x = y
    exact (gather_apply _ _ r j t (tapAt j t) (place1 j t)).trans (padCols_apply (F := Ideal) y r (tapAt j t))
  have e2 : (val_main_v94 (F := Ideal) (ix3 r j t) : EReal) = val_main_v77 (F := Ideal) (ix1 t) :=
    (val_main_v94_apply _).trans ((val_main_v93_apply _).trans (congrArg (val_main_v77 (F := Ideal)) (funext fun a => Fin.ext (by
      match a with
      | ⟨0, _⟩ => rfl))))
  rw [e1, e2]; rfl

/-- The second blur. -/
theorem blur2 (r j : Fin 448) :
    (val_main_v116 (F := Ideal) q x (ix2 r j) : EReal) = blurCols (fun r' j' => val_main_v97 (F := Ideal) q x (ix2 r' j')) r j := by
  refine (val_main_v116_apply q x _).trans ?_
  have hz : (val_main_cst_27 (F := Ideal) (Shape.Idx.first h_S_) : EReal) = 0 := Ideal.ofBits_zero_f32
  rw [hz, zero_add]
  refine Finset.sum_congr rfl fun t _ => ?_
  have ei : idx_main_v116 (ix2 r j) t = ix3 r j t := funext fun a => Fin.ext (by
    match a with
    | ⟨0, _⟩ => rfl
    | ⟨1, _⟩ => rfl
    | ⟨2, _⟩ => rfl)
  rw [ei]
  refine (val_main_v115_apply q x _).trans ?_
  have e1 : (val_main_v112 (F := Ideal) q x (ix3 r j t) : EReal) = val_main_v97 (F := Ideal) q x (ix2 r (mirror (tapAt j t))) := by
    have h98 : val_main_v98 (F := Ideal) q x = padCols (F := Ideal) (val_main_v97 (F := Ideal) q x) := by
      unfold val_main_v98 val_main_call3_v6 val_main_call3_v5 val_main_call3_v3 val_main_call3_v2 val_main_call3_v1 padCols padFront
      rfl
    unfold val_main_v112
    rw [h98]
    generalize val_main_v97 (F := Ideal) q x = y
    exact (gather_apply _ _ r j t (tapAt j t) (place2 j t)).trans (padCols_apply (F := Ideal) y r (tapAt j t))
  have e2 : (val_main_v114 (F := Ideal) (ix3 r j t) : EReal) = val_main_v77 (F := Ideal) (ix1 t) :=
    (val_main_v114_apply _).trans ((val_main_v113_apply _).trans (congrArg (val_main_v77 (F := Ideal)) (funext fun a => Fin.ext (by
      match a with
      | ⟨0, _⟩ => rfl))))
  rw [e1, e2]; rfl

/-- A resize weight. -/
abbrev wgt (a : Fin 32) (i : Fin 448) : EReal := val_main_v39 (F := Ideal) (ix2 a i)

/-- A Gaussian weight. -/
abbrev gss (t : Fin 33) : EReal := val_main_v77 (F := Ideal) (ix1 t)

/-- The grid of distances. -/
abbrev cell (a b : Fin 32) : EReal := val_main_v17 (F := Ideal) q x (ix2 a b)

/-- The resized grid. -/
theorem up_apply (i j : Fin 448) :
    (val_main_v65 (F := Ideal) q x (ix2 i j) : EReal) = ∑ a : Fin 32, (∑ b : Fin 32, cell q x a b * wgt b j) * wgt a i := by
  have e65 : val_main_v65 (F := Ideal) q x (ix2 i j) = val_main_v64 (F := Ideal) q x (ix2 j i) :=
    (val_main_v65_apply q x _).trans (congrArg (val_main_v64 (F := Ideal) q x) (funext fun a => Fin.ext (by
      match a with
      | ⟨0, _⟩ => rfl
      | ⟨1, _⟩ => rfl)))
  rw [e65]
  refine (val_main_v64_apply q x _).trans ?_
  refine Finset.sum_congr rfl fun a _ => ?_
  have el : lidx_main_v64 (ix2 j i) a = ix2 j a := funext fun b => Fin.ext (by
    match b with
    | ⟨0, _⟩ => rfl
    | ⟨1, _⟩ => rfl)
  have er : ridx_main_v64 (ix2 j i) a = ix2 a i := funext fun b => Fin.ext (by
    match b with
    | ⟨0, _⟩ => rfl
    | ⟨1, _⟩ => rfl)
  have h63 : val_main_v63 (F := Ideal) = val_main_v39 (F := Ideal) := rfl
  rw [el, er, h63]
  refine congrArg (fun z : EReal => z * wgt a i) ?_
  refine (val_main_v41_apply q x _).trans ?_
  have e41 : idx_main_v41 (ix2 j a) = ix2 a j := funext fun b => Fin.ext (by
    match b with
    | ⟨0, _⟩ => rfl
    | ⟨1, _⟩ => rfl)
  rw [e41]
  refine (val_main_v40_apply q x _).trans ?_
  refine Finset.sum_congr rfl fun b _ => ?_
  have el' : lidx_main_v40 (ix2 a j) b = ix2 a b := funext fun b => Fin.ext (by
    match b with
    | ⟨0, _⟩ => rfl
    | ⟨1, _⟩ => rfl)
  have er' : ridx_main_v40 (ix2 a j) b = ix2 b j := funext fun b => Fin.ext (by
    match b with
    | ⟨0, _⟩ => rfl
    | ⟨1, _⟩ => rfl)
  rw [el', er']

/-- The anomaly map: the resized grid, blurred along both axes. -/
theorem map_apply (i j : Fin 448) :
    (val_main_v117 (F := Ideal) q x (ix2 i j) : EReal)
      = ∑ s : Fin 33, (∑ t : Fin 33, (∑ a : Fin 32, (∑ b : Fin 32, cell q x a b * wgt b (mirror (tapAt j t)))
          * wgt a (mirror (tapAt i s))) * gss t) * gss s := by
  have e117 : val_main_v117 (F := Ideal) q x (ix2 i j) = val_main_v116 (F := Ideal) q x (ix2 j i) :=
    (val_main_v117_apply q x _).trans (congrArg (val_main_v116 (F := Ideal) q x) (funext fun a => Fin.ext (by
      match a with
      | ⟨0, _⟩ => rfl
      | ⟨1, _⟩ => rfl)))
  rw [e117, blur2]
  refine Finset.sum_congr rfl fun s _ => ?_
  refine congrArg (fun z : EReal => z * gss s) ?_
  have e97 : val_main_v97 (F := Ideal) q x (ix2 j (mirror (tapAt i s))) = val_main_v96 (F := Ideal) q x (ix2 (mirror (tapAt i s)) j) :=
    (val_main_v97_apply q x _).trans (congrArg (val_main_v96 (F := Ideal) q x) (funext fun a => Fin.ext (by
      match a with
      | ⟨0, _⟩ => rfl
      | ⟨1, _⟩ => rfl)))
  refine e97.trans ((blur1 q x _ _).trans ?_)
  refine Finset.sum_congr rfl fun t _ => ?_
  refine congrArg (fun z : EReal => z * gss t) ?_
  exact up_apply q x _ _

end Cert.ReferenceIdeal.Map
-- ==== Proof.HostApply.lean ====
/-
  The padded resize matrix and the blurred resize matrix, entry by entry.
-/
module

public import proofs.«01_k».proof.Proof.HostArrays
public import Idealize.ShloMosaic.Lib.ValueIdx
public import Idealize.ShloMosaic.PureOps.Ideal.Laws

@[expose] public section

set_option maxRecDepth 16384

noncomputable section

open Idealize.ShloMosaic
open Idealize.ShloMosaic.ValueIdx
open scoped BigOperators

namespace Cert.KernelIdeal.Host

open Cert.KernelIdeal Cert.KernelIdeal.Gen Cert.Mirror

section Pad

variable {F : FTy → Type} [FloatOps F]

/-- The front-padded rows are the rows at the reflected places. -/
theorem padFront_apply (y : FVec F S448x32 .f32) (p : Fin 464) (a : Fin 32) :
    padFront y (ix2 p a) = y (ix2 (front p) a) := by
  by_cases h : p.val < 16
  · refine (concatenate_pair_apply_left (s₁ := S16x32) (s₂ := S448x32) (0 : Fin S464x32.rank) _ _ _ (ix2 p a) rfl (ix2 (n0 := 16) ⟨p.val, h⟩ a) (fun b => match b with
      | ⟨0, _⟩ => rfl
      | ⟨1, _⟩ => rfl)).trans ?_
    refine extractStridedSlice_apply _ y _ _ (ix2 (front p) a) (fun b => match b with
      | ⟨0, _⟩ => ?_
      | ⟨1, _⟩ => ?_)
    · show (front p).val = 1 + (16 - (p.val + 1))
      simp only [front, if_pos h]; omega
    · show a.val = 0 + a.val
      omega
  · have hp := p.isLt
    refine concatenate_pair_apply_right (s₁ := S16x32) (s₂ := S448x32) (0 : Fin S464x32.rank) _ _ _ (ix2 p a) rfl rfl (ix2 (front p) a) (fun b hb => match b, hb with
      | ⟨0, _⟩, hb => absurd rfl hb
      | ⟨1, _⟩, _ => rfl) ?_
    show (front p).val + 16 = p.val
    simp only [front, if_neg h]; omega

/-- The padded rows are the rows at the reflected places. -/
theorem padRows_apply (y : FVec F S448x32 .f32) (p : Fin 480) (a : Fin 32) :
    padRows y (ix2 p a) = y (ix2 (mirror p) a) := by
  by_cases h : p.val < 464
  · rw [mirror_front p h]
    refine (concatenate_pair_apply_left (s₁ := S464x32) (s₂ := S16x32) (0 : Fin S480x32.rank) _ _ _ (ix2 p a) rfl (ix2 (n0 := 464) ⟨p.val, h⟩ a) (fun b => match b with
      | ⟨0, _⟩ => rfl
      | ⟨1, _⟩ => rfl)).trans ?_
    exact padFront_apply y _ a
  · have hp := p.isLt
    rw [mirror_back p h]
    refine (concatenate_pair_apply_right (s₁ := S464x32) (s₂ := S16x32) (0 : Fin S480x32.rank) _ _ _ (ix2 p a) rfl rfl (ix2 (n0 := 16) ⟨p.val - 464, by omega⟩ a) (fun b hb => match b, hb with
      | ⟨0, _⟩, hb => absurd rfl hb
      | ⟨1, _⟩, _ => rfl) ?_).trans ?_
    · show p.val - 464 + 464 = p.val
      omega
    · refine (extractStridedSlice_apply _ (padFront y) _ _ (ix2 (n0 := 464) ⟨462 - (p.val - 464), by omega⟩ a) (fun b => match b with
        | ⟨0, _⟩ => ?_
        | ⟨1, _⟩ => ?_)).trans (padFront_apply y _ a)
      · show 462 - (p.val - 464) = 447 + (16 - (p.val - 464 + 1))
        omega
      · show a.val = 0 + a.val
        omega

end Pad

/-- The product that tap `t` adds at row `i` and column `a`. -/
def product (k : FVec Ideal S33 .f32) (p : FVec Ideal S480x32 .f32) (i : Fin 448) (a : Fin 32) (t : ℕ) : EReal :=
  if h : t < 33 then (k (ix1 ⟨t, h⟩) : EReal) * p (ix2 (tapAt i ⟨t, h⟩) a) else 0

/-- One step of the accumulation adds one product. -/
theorem tap_apply (t : ℕ) (ht : t < 33) (hk : S33.Slices ![t] S1) (hp : S480x32.Slices ![t, 0] S448x32)
    (k : FVec Ideal S33 .f32) (p : FVec Ideal S480x32 .f32) (acc : FVec Ideal S448x32 .f32) (i : Fin 448) (a : Fin 32) :
    (tap t hk hp k p acc (ix2 i a) : EReal) = (acc (ix2 i a) : EReal) + product k p i a t := by
  have e1 : broadcastInDim S448x32 ![] bcast_S_S448x32
      (shapeCast S_ (extractStridedSlice S1 ![t] k hk) shapeCasts_S1_S_) (ix2 i a) = k (ix1 ⟨t, ht⟩) := by
    refine (broadcastInDim_apply _ bcast_S_S448x32 _ (ix2 i a) (fun b : Fin 0 => b.elim0) (fun b => b.elim0)).trans ?_
    refine (shapeCast_apply _ shapeCasts_S1_S_ _ (ix1 (0 : Fin 1)) (by decide)).trans ?_
    exact extractStridedSlice_apply _ k hk _ (ix1 ⟨t, ht⟩) (fun b => match b with
      | ⟨0, _⟩ => rfl)
  have e2 : extractStridedSlice S448x32 ![t, 0] p hp (ix2 i a) = p (ix2 (tapAt i ⟨t, ht⟩) a) :=
    extractStridedSlice_apply _ p hp _ (ix2 (tapAt i ⟨t, ht⟩) a) (fun b => match b with
      | ⟨0, _⟩ => by show i.val + t = t + i.val; omega
      | ⟨1, _⟩ => by show a.val = 0 + a.val; omega)
  have e3 : (tap t hk hp k p acc (ix2 i a) : EReal) = (acc (ix2 i a) : EReal)
      + (broadcastInDim S448x32 ![] bcast_S_S448x32
          (shapeCast S_ (extractStridedSlice S1 ![t] k hk) shapeCasts_S1_S_) (ix2 i a) : EReal)
        * extractStridedSlice S448x32 ![t, 0] p hp (ix2 i a) := rfl
  rw [e3, e1, e2, product, dif_pos ht]

/-- The accumulation starts from zero. -/
theorem zeroMap_apply (j : S448x32.Idx) : (zeroMap (F := Ideal) j : EReal) = 0 := by
  refine (broadcastInDim_apply _ bcast_S_S448x32 _ j (fun b : Fin 0 => b.elim0) (fun b => b.elim0)).trans ?_
  exact Ideal.ofBits_zero_f32

/-- The accumulated matrix is the sum over the taps. -/
theorem taps_apply (k : FVec Ideal S33 .f32) (p : FVec Ideal S480x32 .f32) (i : Fin 448) (a : Fin 32) :
    (taps k p (ix2 i a) : EReal) = ∑ t : Fin 33, (k (ix1 t) : EReal) * p (ix2 (tapAt i t) a) := by
  have hs : ∑ t : Fin 33, (k (ix1 t) : EReal) * p (ix2 (tapAt i t) a) = ∑ t ∈ Finset.range 33, product k p i a t := by
    rw [Finset.sum_range]
    refine Finset.sum_congr rfl fun t _ => ?_
    rw [product, dif_pos t.isLt]
  rw [hs]
  simp only [Finset.sum_range_succ, Finset.sum_range_zero, taps]
  rw [tap_apply 32 (by decide)]
  rw [tap_apply 31 (by decide)]
  rw [tap_apply 30 (by decide)]
  rw [tap_apply 29 (by decide)]
  rw [tap_apply 28 (by decide)]
  rw [tap_apply 27 (by decide)]
  rw [tap_apply 26 (by decide)]
  rw [tap_apply 25 (by decide)]
  rw [tap_apply 24 (by decide)]
  rw [tap_apply 23 (by decide)]
  rw [tap_apply 22 (by decide)]
  rw [tap_apply 21 (by decide)]
  rw [tap_apply 20 (by decide)]
  rw [tap_apply 19 (by decide)]
  rw [tap_apply 18 (by decide)]
  rw [tap_apply 17 (by decide)]
  rw [tap_apply 16 (by decide)]
  rw [tap_apply 15 (by decide)]
  rw [tap_apply 14 (by decide)]
  rw [tap_apply 13 (by decide)]
  rw [tap_apply 12 (by decide)]
  rw [tap_apply 11 (by decide)]
  rw [tap_apply 10 (by decide)]
  rw [tap_apply 9 (by decide)]
  rw [tap_apply 8 (by decide)]
  rw [tap_apply 7 (by decide)]
  rw [tap_apply 6 (by decide)]
  rw [tap_apply 5 (by decide)]
  rw [tap_apply 4 (by decide)]
  rw [tap_apply 3 (by decide)]
  rw [tap_apply 2 (by decide)]
  rw [tap_apply 1 (by decide)]
  rw [tap_apply 0 (by decide)]
  rw [zeroMap_apply]

/-- The blurred resize matrix: for each fine place, the Gaussian-weighted sum of the resize rows at the reflected places. -/
theorem blur_apply (k : FVec Ideal S33 .f32) (y : FVec Ideal S448x32 .f32) (i : Fin 448) (a : Fin 32) :
    (taps k (padRows y) (ix2 i a) : EReal) = ∑ t : Fin 33, (k (ix1 t) : EReal) * y (ix2 (mirror (tapAt i t)) a) := by
  rw [taps_apply]
  refine Finset.sum_congr rfl fun t _ => ?_
  rw [padRows_apply]

end Cert.KernelIdeal.Host
-- ==== Proof.MapEqual.lean ====
/-
  The kernel's anomaly map is the reference's: the grid between two blurred resize matrices is the resized grid blurred
  along both axes.
-/
module

public import proofs.«01_k».proof.Proof.MapAlgebra
public import proofs.«01_k».proof.Proof.MapBlur
public import proofs.«01_k».proof.Proof.HostApply
public import proofs.«01_k».proof.Proof.PostArrays
public import Idealize.ShloMosaic.Lib.MatmulPlain

@[expose] public section

set_option maxRecDepth 16384

noncomputable section

open Idealize.ShloMosaic hiding ix2
open Idealize.ShloMosaic.ValueIdx
open scoped BigOperators

namespace Cert.MapEqual

open Cert.Mirror Cert.ReferenceIdeal.Map Cert.MapAlgebra

/-- The kernel's resize weights are the reference's. -/
theorem weights_eq : (Cert.KernelIdeal.Host.weights : FVec Ideal Cert.KernelIdeal.S32x448 .f32)
    = Cert.ReferenceIdeal.Read.val_main_v39 (F := Ideal) := rfl

/-- The kernel's Gaussian weights are the reference's. -/
theorem gauss_eq : (Cert.KernelIdeal.Host.gauss : FVec Ideal Cert.KernelIdeal.S33 .f32)
    = Cert.ReferenceIdeal.Read.val_main_v77 (F := Ideal) := rfl

/-- The kernel's resize matrix, entry by entry. -/
theorem resize_apply (i : Fin 448) (a : Fin 32) :
    (Cert.KernelIdeal.Host.resize (F := Ideal) (ix2 i a) : EReal) = wgt a i := by
  unfold Cert.KernelIdeal.Host.resize
  rw [weights_eq]
  exact transpose_apply [1, 0] _ _ (ix2 i a) (ix2 a i) (fun b => match b with
    | ⟨0, _⟩ => rfl
    | ⟨1, _⟩ => rfl)

/-- The blurred resize matrix. -/
def blurred : FVec Ideal Cert.KernelIdeal.S448x32 .f32 :=
  Cert.KernelIdeal.Host.taps Cert.KernelIdeal.Host.gauss (Cert.KernelIdeal.Host.padRows Cert.KernelIdeal.Host.resize)

/-- The blurred resize matrix, entry by entry. -/
theorem blurred_apply (i : Fin 448) (a : Fin 32) :
    (blurred (ix2 i a) : EReal) = ∑ s : Fin 33, gss s * wgt a (mirror (tapAt i s)) := by
  unfold blurred
  rw [Cert.KernelIdeal.Host.blur_apply]
  refine Finset.sum_congr rfl fun s _ => ?_
  rw [resize_apply, gauss_eq]

/-- The kernel's map, entry by entry: the grid between two matrices. -/
theorem mapOf_apply (y : FVec Ideal Cert.KernelIdeal.S32x32 .f32) (x : FVec Ideal Cert.KernelIdeal.S448x32 .f32) (i j : Fin 448) :
    (Cert.KernelIdeal.Post.mapOf y x (ix2 i j) : EReal)
      = ∑ b : Fin 32, (∑ a : Fin 32, (x (ix2 i a) : EReal) * y (ix2 a b)) * x (ix2 j b) := by
  unfold Cert.KernelIdeal.Post.mapOf Cert.KernelIdeal.Gen.k1_pay2
  simp only [shapeCast_self]
  refine (Ideal.matmul_transposedRhs_apply _ _ _ _ i j).trans ?_
  have hz : ∀ s : Cert.KernelIdeal.S448x448.Idx, (constant (F := Ideal) Cert.KernelIdeal.S448x448 .f32 0x00000000#32 s : EReal) = 0 :=
    fun _ => Ideal.ofBits_zero_f32
  have hz' : ∀ s : Cert.KernelIdeal.S448x32.Idx, (constant (F := Ideal) Cert.KernelIdeal.S448x32 .f32 0x00000000#32 s : EReal) = 0 :=
    fun _ => Ideal.ofBits_zero_f32
  rw [hz, zero_add]
  refine Finset.sum_congr rfl fun b _ => ?_
  refine congrArg (fun z : EReal => z * x (ix2 j b)) ?_
  refine (Ideal.matmul_plain_apply _ _ _ _ i b).trans ?_
  rw [hz', zero_add]

/-- The two sums agree, for a grid that agrees with the reference's. -/
theorem sums_eq (g : Fin 32 → Fin 32 → EReal) (i j : Fin 448) :
    ∑ b : Fin 32, (∑ a : Fin 32, (∑ s : Fin 33, gss s * wgt a (mirror (tapAt i s))) * g a b)
        * (∑ t : Fin 33, gss t * wgt b (mirror (tapAt j t)))
      = ∑ s : Fin 33, (∑ t : Fin 33, (∑ a : Fin 32, (∑ b : Fin 32, g a b * wgt b (mirror (tapAt j t)))
          * wgt a (mirror (tapAt i s))) * gss t) * gss s :=
  separable gss (fun s a => wgt a (mirror (tapAt i s))) (fun t b => wgt b (mirror (tapAt j t))) g
    gauss_good (fun s a => weight_good a (mirror (tapAt i s))) (fun t b => weight_good b (mirror (tapAt j t)))

/-- Over a grid that agrees with the reference's, the kernel's map is the reference's at each entry. -/
theorem map_eq_at (q : (⟨Cert.ReferenceIdeal.S1024x1024, .f32⟩ : BufTy).Contents (Elt Ideal))
    (x : (⟨Cert.ReferenceIdeal.S65536x1024, .f32⟩ : BufTy).Contents (Elt Ideal))
    (y : FVec Ideal Cert.KernelIdeal.S32x32 .f32) (h : ∀ a b : Fin 32, (y (ix2 a b) : EReal) = cell q x a b) (i j : Fin 448) :
    (Cert.KernelIdeal.Post.mapOf y blurred (ix2 i j) : EReal) = Cert.ReferenceIdeal.Read.val_main_v117 (F := Ideal) q x (ix2 i j) := by
  rw [map_apply q x i j]
  generalize cell q x = g at h
  rw [mapOf_apply y blurred i j, ← sums_eq]
  refine Finset.sum_congr rfl fun b _ => ?_
  rw [blurred_apply j b]
  refine congrArg (fun z : EReal => z * _) (Finset.sum_congr rfl fun a _ => ?_)
  rw [blurred_apply i a, h a b]

/-- THE MAP: over a grid that agrees with the reference's, the kernel's map is the reference's. -/
theorem map_eq (q : (⟨Cert.ReferenceIdeal.S1024x1024, .f32⟩ : BufTy).Contents (Elt Ideal))
    (x : (⟨Cert.ReferenceIdeal.S65536x1024, .f32⟩ : BufTy).Contents (Elt Ideal))
    (y : FVec Ideal Cert.KernelIdeal.S32x32 .f32) (h : ∀ a b : Fin 32, (y (ix2 a b) : EReal) = cell q x a b) :
    Cert.KernelIdeal.Post.mapOf y blurred = Cert.ReferenceIdeal.Read.val_main_v117 (F := Ideal) q x := by
  have e := map_eq_at q x y h
  generalize Cert.KernelIdeal.Post.mapOf y blurred = f at e ⊢
  generalize Cert.ReferenceIdeal.Read.val_main_v117 (F := Ideal) q x = f' at e ⊢
  funext k
  exact (congrArg f (ValueIdx.eq_ix2 k)).trans ((e (k 0) (k 1)).trans (congrArg f' (ValueIdx.eq_ix2 k)).symm)

end Cert.MapEqual
-- ==== Proof.lean ====
/-
  The claims about the anomaly score and the anomaly map: both kernel programs and the reference run and keep their
  arguments, and the kernel's score and map are the reference's at exact arithmetic.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelResults
public import proofs.«01_k».proof.Proof.NnFold
public import proofs.«01_k».proof.Proof.NnReference
public import proofs.«01_k».proof.Proof.ScoreEqual
public import proofs.«01_k».proof.Proof.MapEqual
public import Idealize.ShloMosaic.Adequacy
public import Idealize.ShloMosaic.Init

@[expose] public section

noncomputable section

namespace Cert.Proof

open Idealize.ShloMosaic Idealize.SL.Sem
open Cert.KernelIdeal.Results

/-- The kernel runs at the machine's floats and keeps its arguments. -/
theorem frame_p : Cert.quiescent_Kernel (hKernel := Cert.Kernel.Gen.facts) := fun m ρ _ => Cert.Kernel.Whole.run_frame m ρ

/-- The kernel runs at exact arithmetic and keeps its arguments. -/
theorem frame_pi : Cert.quiescent_KernelIdeal (hKernelIdeal := Cert.KernelIdeal.Gen.facts) :=
  fun m ρ _ => Cert.KernelIdeal.Whole.run_frame m ρ

/-- The reference runs at exact arithmetic and keeps its arguments. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

section Values

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The queries. -/
abbrev queries : FVec Ideal Cert.KernelIdeal.S1024x1024 .f32 :=
  m ((c.tc : Thread Cert.KernelIdeal.nD Cert.KernelIdeal.τ).loc Cert.KernelIdeal.main_arg0)
/-- The memory bank. -/
abbrev bank : FVec Ideal Cert.KernelIdeal.S65536x1024 .f32 :=
  m ((c.tc : Thread Cert.KernelIdeal.nD Cert.KernelIdeal.τ).loc Cert.KernelIdeal.main_arg1)

/-- The kernel's distances are the reference's. -/
theorem dists_eq : dists m ρ c = Cert.ReferenceIdeal.Read.val_main_v14 (F := Ideal) (queries m c) (bank m c) := by
  funext j
  exact (Cert.KernelIdeal.Nn.array_eq (Cert.KernelIdeal.Whole.V0 m ρ) c j).trans
    (Cert.ReferenceIdeal.Nn.dist_apply (queries m c) (bank m c) j).symm

/-- The kernel's grid is the reference's. -/
theorem grid_eq : gridOf m ρ c = Cert.ReferenceIdeal.Read.val_main_v17 (F := Ideal) (queries m c) (bank m c) := by
  unfold gridOf
  rw [dists_eq]
  rfl

/-- The kernel's score is the reference's. -/
theorem score_eq : shapeCast Cert.KernelIdeal.S_ (Cert.KernelIdeal.Post.scoreOf (gridOf m ρ c)) Cert.KernelIdeal.Gen.shapeCasts_S1x1_S_
    = Cert.ReferenceIdeal.Read.val_main_v16 (F := Ideal) (queries m c) (bank m c) := by
  have h : ∀ i, (gridOf m ρ c i : EReal) = Cert.ReferenceIdeal.Score.entry
      (Cert.ReferenceIdeal.Read.val_main_v14 (F := Ideal) (queries m c) (bank m c)) (Cert.ScoreEqual.flat i) := fun i => by
    rw [grid_eq, Cert.ReferenceIdeal.Read.val_main_v17_apply]
    refine congrArg (Cert.ReferenceIdeal.Read.val_main_v14 (F := Ideal) (queries m c) (bank m c)) (funext fun a => Fin.ext ?_)
    match a with
    | ⟨0, _⟩ => rfl
  have ht := Cert.ScoreEqual.total_eq_topSum _ _ h
  funext i
  refine Eq.trans ?_ (Cert.ReferenceIdeal.Score.score_apply (queries m c) (bank m c) i).symm
  exact congrArg (fun s : EReal => Ideal.div s (Ideal.ofBits .f32 0x41200000#32)) ht

/-- The kernel's map is the reference's. -/
theorem map_eq : Cert.KernelIdeal.Post.mapOf (gridOf m ρ c) (Cert.KernelIdeal.Host.taps Cert.KernelIdeal.Host.gauss
      (Cert.KernelIdeal.Host.padRows Cert.KernelIdeal.Host.resize))
    = Cert.ReferenceIdeal.Read.val_main_v117 (F := Ideal) (queries m c) (bank m c) :=
  Cert.MapEqual.map_eq (queries m c) (bank m c) (gridOf m ρ c) (fun a b => congrFun (grid_eq m ρ c) (ValueIdx.ix2 a b))

end Values

/-- The kernel's score and map are the reference's, element by element. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => shapeCast Cert.KernelIdeal.S_ (Cert.KernelIdeal.Post.scoreOf (gridOf m ρ c)) Cert.KernelIdeal.Gen.shapeCasts_S1x1_S_,
    fun c => Cert.KernelIdeal.Post.mapOf (gridOf m ρ c) (Cert.KernelIdeal.Host.taps Cert.KernelIdeal.Host.gauss
      (Cert.KernelIdeal.Host.padRows Cert.KernelIdeal.Host.resize)), run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v16_eq _ _).trans ?_
    rw [(hagree c).1, (hagree c).2]
    exact (score_eq m ρ c).symm
  · refine (Cert.ReferenceIdeal.Read.val_main_v117_eq m' c).trans ?_
    rw [(hagree c).1, (hagree c).2]
    exact (map_eq m ρ c).symm

theorem claim : Cert.Claim :=
  ⟨Cert.Kernel.Gen.facts, Cert.KernelIdeal.Gen.facts, Cert.ReferenceIdeal.Gen.facts,
    frame_p, frame_pi, frame_ri, trivial, algebraic⟩

end Cert.Proof

end
